-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_forget_bias_above_minus_infinity [hPre_forget_bias_above_minus_infinity : Cert.Pre_forget_bias_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_forget_bias_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_forget_bias_above_minus_infinity [hPre_forget_bias_above_minus_infinity : Cert.Pre_forget_bias_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_forget_bias_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_forget_bias_above_minus_infinity [hKernelIdeal : Cert.KernelIdeal.Facts] [hPre_forget_bias_above_minus_infinity : Cert.Pre_forget_bias_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_forget_bias_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_forget_bias_above_minus_infinity [hReferenceIdeal : Cert.ReferenceIdeal.Facts] [hPre_forget_bias_above_minus_infinity : Cert.Pre_forget_bias_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_forget_bias_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_forget_bias_above_minus_infinity [hKernelIdeal : Cert.KernelIdeal.Facts] [hReferenceIdeal : Cert.ReferenceIdeal.Facts] [hPre_forget_bias_above_minus_infinity : Cert.Pre_forget_bias_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_forget_bias_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_forget_bias_above_minus_infinity : Cert.Pre_forget_bias_above_minus_infinity.Facts),
    quiescent_Kernel (hKernel := hKernel)
    ∧ quiescent_KernelIdeal (hKernelIdeal := hKernelIdeal)
    ∧ quiescent_KernelIdeal_pre_forget_bias_above_minus_infinity (hKernelIdeal := hKernelIdeal) (hPre_forget_bias_above_minus_infinity := hPre_forget_bias_above_minus_infinity)
    ∧ quiescent_ReferenceIdeal (hReferenceIdeal := hReferenceIdeal)
    ∧ quiescent_ReferenceIdeal_pre_forget_bias_above_minus_infinity (hReferenceIdeal := hReferenceIdeal) (hPre_forget_bias_above_minus_infinity := hPre_forget_bias_above_minus_infinity)
    ∧ preserves_Kernel_KernelIdeal
    ∧ algebraic_KernelIdeal_ReferenceIdeal_pre_forget_bias_above_minus_infinity (hKernelIdeal := hKernelIdeal) (hReferenceIdeal := hReferenceIdeal) (hPre_forget_bias_above_minus_infinity := hPre_forget_bias_above_minus_infinity)
-- ==== Pre_forget_bias_above_minus_infinity.lean ====
abbrev S512x256x16x9 : Shape := ⟨4, ![512, 256, 16, 9]⟩
abbrev S200x144 : Shape := ⟨2, ![200, 144]⟩
abbrev S200x50 : Shape := ⟨2, ![200, 50]⟩
abbrev S200 : Shape := ⟨1, ![200]⟩
abbrev S144x50 : Shape := ⟨2, ![144, 50]⟩
abbrev S144 : Shape := ⟨1, ![144]⟩
abbrev S50 : Shape := ⟨1, ![50]⟩
abbrev S_ : Shape := ⟨0, ![]⟩

class Facts : Prop where
  slices_S200_S50_50 : S200.Slices ![50] S50
  bcast_S_S50 : S_.BroadcastsInDim S50 (![] : Fin 0 → Fin S50.rank)

variable [Facts]

def fn {F : FTy → Type} [FloatOps F] (main_arg0 : FVec F S512x256x16x9 .f32) (main_arg1 : FVec F S200x144 .f32) (main_arg2 : FVec F S200x50 .f32) (main_arg3 : FVec F S200 .f32) (main_arg4 : FVec F S200 .f32) (main_arg5 : FVec F S200x50 .f32) (main_arg6 : FVec F S200x50 .f32) (main_arg7 : FVec F S200 .f32) (main_arg8 : FVec F S200 .f32) (main_arg9 : FVec F S144x50 .f32) (main_arg10 : FVec F S144 .f32) : IVec S50 1 :=
  let main_v0 : FVec F S200 .f32 := addf main_arg7 main_arg8
  let main_v1 : FVec F S50 .f32 := (extractStridedSlice S50 ![50] · slices_S200_S50_50) main_v0
  let main_cst : FVec F S_ .f32 := constant S_ .f32 0xFF800000#32
  let main_v2 : FVec F S50 .f32 := broadcastInDim S50 ![] bcast_S_S50 main_cst
  let main_v3 : IVec S50 1 := cmpf .ogt main_v1 main_v2
  main_v3
-- ==== Kernel.lean ====
abbrev S512x256x16x9 : Shape := ⟨4, ![512, 256, 16, 9]⟩
abbrev S200x144 : Shape := ⟨2, ![200, 144]⟩
abbrev S200x50 : Shape := ⟨2, ![200, 50]⟩
abbrev S200 : Shape := ⟨1, ![200]⟩
abbrev S144x50 : Shape := ⟨2, ![144, 50]⟩
abbrev S144 : Shape := ⟨1, ![144]⟩
abbrev S512x256x144 : Shape := ⟨3, ![512, 256, 144]⟩
abbrev S256x512x144 : Shape := ⟨3, ![256, 512, 144]⟩
abbrev S4x50x144 : Shape := ⟨3, ![4, 50, 144]⟩
abbrev S_ : Shape := ⟨0, ![]⟩
abbrev S4x56x144 : Shape := ⟨3, ![4, 56, 144]⟩
abbrev S224x144 : Shape := ⟨2, ![224, 144]⟩
abbrev S200x56 : Shape := ⟨2, ![200, 56]⟩
abbrev S4x50x56 : Shape := ⟨3, ![4, 50, 56]⟩
abbrev S4x56x56 : Shape := ⟨3, ![4, 56, 56]⟩
abbrev S224x56 : Shape := ⟨2, ![224, 56]⟩
abbrev S4x50 : Shape := ⟨2, ![4, 50]⟩
abbrev S4x56 : Shape := ⟨2, ![4, 56]⟩
abbrev S224x1 : Shape := ⟨2, ![224, 1]⟩
abbrev S50 : Shape := ⟨1, ![50]⟩
abbrev S56 : Shape := ⟨1, ![56]⟩
abbrev S56x1 : Shape := ⟨2, ![56, 1]⟩
abbrev S224x112 : Shape := ⟨2, ![224, 112]⟩
abbrev S448x112 : Shape := ⟨2, ![448, 112]⟩
abbrev S448x1 : Shape := ⟨2, ![448, 1]⟩
abbrev S448x7 : Shape := ⟨2, ![448, 7]⟩
abbrev S448x120 : Shape := ⟨2, ![448, 120]⟩
abbrev S120x1 : Shape := ⟨2, ![120, 1]⟩
abbrev S1 : Shape := ⟨1, ![1]⟩
abbrev S2 : Shape := ⟨1, ![2]⟩
abbrev S144x56 : Shape := ⟨2, ![144, 56]⟩
abbrev S144x1 : Shape := ⟨2, ![144, 1]⟩
abbrev S144x512 : Shape := ⟨2, ![144, 512]⟩
abbrev S64x256x144 : Shape := ⟨3, ![64, 256, 144]⟩
abbrev S144x256 : Shape := ⟨2, ![144, 256]⟩
abbrev S120x256 : Shape := ⟨2, ![120, 256]⟩
abbrev S56x256 : Shape := ⟨2, ![56, 256]⟩
abbrev S1x256x144 : Shape := ⟨3, ![1, 256, 144]⟩
abbrev S256x144 : Shape := ⟨2, ![256, 144]⟩
abbrev S224x256 : Shape := ⟨2, ![224, 256]⟩
abbrev S120x128 : Shape := ⟨2, ![120, 128]⟩
abbrev S448x128 : Shape := ⟨2, ![448, 128]⟩
abbrev S224x128 : Shape := ⟨2, ![224, 128]⟩
abbrev S56x128 : Shape := ⟨2, ![56, 128]⟩
abbrev S448x256 : Shape := ⟨2, ![448, 256]⟩
abbrev S512x144 : Shape := ⟨2, ![512, 144]⟩
abbrev S512x16x9 : Shape := ⟨3, ![512, 16, 9]⟩

abbrev nBuf : Space → Nat
  | .hbm => 109
  | .vmem => 13
  | .smem => 0
  | _ => 0

abbrev bufTy : (tb : Table) → Fin (tcTables nBuf tb) → BufTy
  | .hbm, ⟨0, _⟩ => ⟨S512x256x16x9, .f32⟩
  | .hbm, ⟨1, _⟩ => ⟨S200x144, .f32⟩
  | .hbm, ⟨2, _⟩ => ⟨S200x50, .f32⟩
  | .hbm, ⟨3, _⟩ => ⟨S200, .f32⟩
  | .hbm, ⟨4, _⟩ => ⟨S200, .f32⟩
  | .hbm, ⟨5, _⟩ => ⟨S200x50, .f32⟩
  | .hbm, ⟨6, _⟩ => ⟨S200x50, .f32⟩
  | .hbm, ⟨7, _⟩ => ⟨S200, .f32⟩
  | .hbm, ⟨8, _⟩ => ⟨S200, .f32⟩
  | .hbm, ⟨9, _⟩ => ⟨S144x50, .f32⟩
  | .hbm, ⟨10, _⟩ => ⟨S144, .f32⟩
  | .hbm, ⟨11, _⟩ => ⟨S512x256x144, .f32⟩
  | .hbm, ⟨12, _⟩ => ⟨S512x256x144, .bf16⟩
  | .hbm, ⟨13, _⟩ => ⟨S256x512x144, .bf16⟩
  | .hbm, ⟨14, _⟩ => ⟨S4x50x144, .f32⟩
  | .hbm, ⟨15, _⟩ => ⟨S_, .i32⟩
  | .hbm, ⟨16, _⟩ => ⟨S_, .f32⟩
  | .hbm, ⟨17, _⟩ => ⟨S4x56x144, .f32⟩
  | .hbm, ⟨18, _⟩ => ⟨S224x144, .f32⟩
  | .hbm, ⟨19, _⟩ => ⟨S224x144, .bf16⟩
  | .hbm, ⟨20, _⟩ => ⟨S_, .i32⟩
  | .hbm, ⟨21, _⟩ => ⟨S_, .f32⟩
  | .hbm, ⟨22, _⟩ => ⟨S200x56, .f32⟩
  | .hbm, ⟨23, _⟩ => ⟨S4x50x56, .f32⟩
  | .hbm, ⟨24, _⟩ => ⟨S_, .i32⟩
  | .hbm, ⟨25, _⟩ => ⟨S_, .f32⟩
  | .hbm, ⟨26, _⟩ => ⟨S4x56x56, .f32⟩
  | .hbm, ⟨27, _⟩ => ⟨S224x56, .f32⟩
  | .hbm, ⟨28, _⟩ => ⟨S200, .f32⟩
  | .hbm, ⟨29, _⟩ => ⟨S4x50, .f32⟩
  | .hbm, ⟨30, _⟩ => ⟨S_, .i32⟩
  | .hbm, ⟨31, _⟩ => ⟨S_, .f32⟩
  | .hbm, ⟨32, _⟩ => ⟨S4x56, .f32⟩
  | .hbm, ⟨33, _⟩ => ⟨S224x1, .f32⟩
  | .hbm, ⟨34, _⟩ => ⟨S_, .i32⟩
  | .hbm, ⟨35, _⟩ => ⟨S_, .f32⟩
  | .hbm, ⟨36, _⟩ => ⟨S200x56, .f32⟩
  | .hbm, ⟨37, _⟩ => ⟨S4x50x56, .f32⟩
  | .hbm, ⟨38, _⟩ => ⟨S_, .i32⟩
  | .hbm, ⟨39, _⟩ => ⟨S_, .f32⟩
  | .hbm, ⟨40, _⟩ => ⟨S4x56x56, .f32⟩
  | .hbm, ⟨41, _⟩ => ⟨S224x56, .f32⟩
  | .hbm, ⟨42, _⟩ => ⟨S_, .i32⟩
  | .hbm, ⟨43, _⟩ => ⟨S_, .f32⟩
  | .hbm, ⟨44, _⟩ => ⟨S200x56, .f32⟩
  | .hbm, ⟨45, _⟩ => ⟨S4x50x56, .f32⟩
  | .hbm, ⟨46, _⟩ => ⟨S_, .i32⟩
  | .hbm, ⟨47, _⟩ => ⟨S_, .f32⟩
  | .hbm, ⟨48, _⟩ => ⟨S4x56x56, .f32⟩
  | .hbm, ⟨49, _⟩ => ⟨S224x56, .f32⟩
  | .hbm, ⟨50, _⟩ => ⟨S200, .f32⟩
  | .hbm, ⟨51, _⟩ => ⟨S4x50, .f32⟩
  | .hbm, ⟨52, _⟩ => ⟨S_, .i32⟩
  | .hbm, ⟨53, _⟩ => ⟨S_, .f32⟩
  | .hbm, ⟨54, _⟩ => ⟨S4x56, .f32⟩
  | .hbm, ⟨55, _⟩ => ⟨S224x1, .f32⟩
  | .hbm, ⟨56, _⟩ => ⟨S200, .f32⟩
  | .hbm, ⟨57, _⟩ => ⟨S50, .f32⟩
  | .hbm, ⟨58, _⟩ => ⟨S50, .f32⟩
  | .hbm, ⟨59, _⟩ => ⟨S50, .f32⟩
  | .hbm, ⟨60, _⟩ => ⟨S_, .f32⟩
  | .hbm, ⟨61, _⟩ => ⟨S50, .f32⟩
  | .hbm, ⟨62, _⟩ => ⟨S50, .f32⟩
  | .hbm, ⟨63, _⟩ => ⟨S_, .f32⟩
  | .hbm, ⟨64, _⟩ => ⟨S50, .f32⟩
  | .hbm, ⟨65, _⟩ => ⟨S50, .f32⟩
  | .hbm, ⟨66, _⟩ => ⟨S50, .f32⟩
  | .hbm, ⟨67, _⟩ => ⟨S50, .f32⟩
  | .hbm, ⟨68, _⟩ => ⟨S50, .f32⟩
  | .hbm, ⟨69, _⟩ => ⟨S50, .f32⟩
  | .hbm, ⟨70, _⟩ => ⟨S50, .f32⟩
  | .hbm, ⟨71, _⟩ => ⟨S50, .f32⟩
  | .hbm, ⟨72, _⟩ => ⟨S_, .f32⟩
  | .hbm, ⟨73, _⟩ => ⟨S50, .f32⟩
  | .hbm, ⟨74, _⟩ => ⟨S50, .f32⟩
  | .hbm, ⟨75, _⟩ => ⟨S_, .f32⟩
  | .hbm, ⟨76, _⟩ => ⟨S50, .f32⟩
  | .hbm, ⟨77, _⟩ => ⟨S50, .f32⟩
  | .hbm, ⟨78, _⟩ => ⟨S50, .f32⟩
  | .hbm, ⟨79, _⟩ => ⟨S50, .f32⟩
  | .hbm, ⟨80, _⟩ => ⟨S_, .i32⟩
  | .hbm, ⟨81, _⟩ => ⟨S_, .f32⟩
  | .hbm, ⟨82, _⟩ => ⟨S56, .f32⟩
  | .hbm, ⟨83, _⟩ => ⟨S56x1, .f32⟩
  | .hbm, ⟨84, _⟩ => ⟨S_, .f32⟩
  | .hbm, ⟨85, _⟩ => ⟨S224x56, .f32⟩
  | .hbm, ⟨86, _⟩ => ⟨S224x112, .f32⟩
  | .hbm, ⟨87, _⟩ => ⟨S224x112, .f32⟩
  | .hbm, ⟨88, _⟩ => ⟨S448x112, .f32⟩
  | .hbm, ⟨89, _⟩ => ⟨S448x1, .f32⟩
  | .hbm, ⟨90, _⟩ => ⟨S_, .f32⟩
  | .hbm, ⟨91, _⟩ => ⟨S448x7, .f32⟩
  | .hbm, ⟨92, _⟩ => ⟨S448x120, .f32⟩
  | .hbm, ⟨93, _⟩ => ⟨S_, .f32⟩
  | .hbm, ⟨94, _⟩ => ⟨S120x1, .f32⟩
  | .hbm, ⟨95, _⟩ => ⟨S_, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S2, .i32⟩
  | .hbm, ⟨100, _⟩ => ⟨S_, .f32⟩
  | .hbm, ⟨101, _⟩ => ⟨S120x1, .f32⟩
  | .hbm, ⟨102, _⟩ => ⟨S_, .i32⟩
  | .hbm, ⟨103, _⟩ => ⟨S_, .f32⟩
  | .hbm, ⟨104, _⟩ => ⟨S144x56, .f32⟩
  | .hbm, ⟨105, _⟩ => ⟨S144x1, .f32⟩
  | .hbm, ⟨106, _⟩ => ⟨S144x512, .f32⟩
  | .hbm, ⟨107, _⟩ => ⟨S512x144, .f32⟩
  | .hbm, ⟨108, _⟩ => ⟨S512x16x9, .f32⟩
  | .local _ .vmem, ⟨0, _⟩ => ⟨S64x256x144, .bf16⟩
  | .local _ .vmem, ⟨1, _⟩ => ⟨S64x256x144, .bf16⟩
  | .local _ .vmem, ⟨2, _⟩ => ⟨S224x144, .bf16⟩
  | .local _ .vmem, ⟨3, _⟩ => ⟨S448x120, .f32⟩
  | .local _ .vmem, ⟨4, _⟩ => ⟨S120x1, .f32⟩
  | .local _ .vmem, ⟨5, _⟩ => ⟨S56x1, .f32⟩
  | .local _ .vmem, ⟨6, _⟩ => ⟨S144x56, .f32⟩
  | .local _ .vmem, ⟨7, _⟩ => ⟨S144x1, .f32⟩
  | .local _ .vmem, ⟨8, _⟩ => ⟨S144x256, .f32⟩
  | .local _ .vmem, ⟨9, _⟩ => ⟨S144x256, .f32⟩
  | .local _ .vmem, ⟨10, _⟩ => ⟨S120x256, .f32⟩
  | .local _ .vmem, ⟨11, _⟩ => ⟨S56x256, .f32⟩
  | .local _ .vmem, ⟨12, _⟩ => ⟨S56x256, .f32⟩
  | _, _ => ⟨S512x256x16x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_call2_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_call3_v0 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_call4_v0 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_call5_v0 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_call6_v0 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_call7_v0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_7 : Ref sig .tc := ⟨.hbm, 52, rfl⟩
abbrev main_call8_v0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst : Ref sig .tc := ⟨.hbm, 60, rfl⟩
abbrev main_v31 : Ref sig .tc := ⟨.hbm, 61, rfl⟩
abbrev main_v32 : Ref sig .tc := ⟨.hbm, 62, rfl⟩
abbrev main_cst_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_cst_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_11 : Ref sig .tc := ⟨.hbm, 80, rfl⟩
abbrev main_call9_v0 : Ref sig .tc := ⟨.hbm, 81, rfl⟩
abbrev main_v47 : Ref sig .tc := ⟨.hbm, 82, rfl⟩
abbrev main_v48 : Ref sig .tc := ⟨.hbm, 83, rfl⟩
abbrev main_cst_12 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_13 : Ref sig .tc := ⟨.hbm, 90, rfl⟩
abbrev main_v54 : Ref sig .tc := ⟨.hbm, 91, rfl⟩
abbrev main_v55 : Ref sig .tc := ⟨.hbm, 92, rfl⟩
abbrev main_cst_14 : Ref sig .tc := ⟨.hbm, 93, rfl⟩
abbrev main_v56 : Ref sig .tc := ⟨.hbm, 94, rfl⟩
abbrev main_c_15 : Ref sig .tc := ⟨.hbm, 95, rfl⟩
abbrev main_v57 : Ref sig .tc := ⟨.hbm, 96, rfl⟩
abbrev main_c_16 : Ref sig .tc := ⟨.hbm, 97, rfl⟩
abbrev main_v58 : Ref sig .tc := ⟨.hbm, 98, rfl⟩
abbrev main_v59 : Ref sig .tc := ⟨.hbm, 99, rfl⟩
abbrev main_cst_17 : Ref sig .tc := ⟨.hbm, 100, rfl⟩
abbrev main_v60 : Ref sig .tc := ⟨.hbm, 101, rfl⟩
abbrev main_c_18 : Ref sig .tc := ⟨.hbm, 102, rfl⟩
abbrev main_call10_v0 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32_4798 : BitVec 32 := 3#32
  let v11139 : BitVec 1 := Scalar.cmpi .eq arg1 c3_i32_4798
  let v11140 : BitVec 32 := Scalar.extui v11139
  let c0_i32_4799 : BitVec 32 := 0#32
  let v11141 : BitVec 1 := Scalar.cmpi .ne v11140 c0_i32_4799
  v11141

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x256x144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S224x144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S448x120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S120x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S56x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S144x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S144x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S512x256x16x9 : Shape := ⟨4, ![512, 256, 16, 9]⟩
abbrev S200x144 : Shape := ⟨2, ![200, 144]⟩
abbrev S200x50 : Shape := ⟨2, ![200, 50]⟩
abbrev S200 : Shape := ⟨1, ![200]⟩
abbrev S144x50 : Shape := ⟨2, ![144, 50]⟩
abbrev S144 : Shape := ⟨1, ![144]⟩
abbrev S512x256x144 : Shape := ⟨3, ![512, 256, 144]⟩
abbrev S512x256x200 : Shape := ⟨3, ![512, 256, 200]⟩
abbrev S1x1x200 : Shape := ⟨3, ![1, 1, 200]⟩
abbrev S256x512x200 : Shape := ⟨3, ![256, 512, 200]⟩
abbrev S_ : Shape := ⟨0, ![]⟩
abbrev S512x50 : Shape := ⟨2, ![512, 50]⟩
abbrev S256x512x50 : Shape := ⟨3, ![256, 512, 50]⟩
abbrev S1x512x200 : Shape := ⟨3, ![1, 512, 200]⟩
abbrev S512x200 : Shape := ⟨2, ![512, 200]⟩
abbrev S50x200 : Shape := ⟨2, ![50, 200]⟩
abbrev S1x512x50 : Shape := ⟨3, ![1, 512, 50]⟩
abbrev S512x256x50 : Shape := ⟨3, ![512, 256, 50]⟩
abbrev S512x1x50 : Shape := ⟨3, ![512, 1, 50]⟩
abbrev S50x144 : Shape := ⟨2, ![50, 144]⟩
abbrev S512x144 : Shape := ⟨2, ![512, 144]⟩
abbrev S1x144 : Shape := ⟨2, ![1, 144]⟩
abbrev S512x16x9 : Shape := ⟨3, ![512, 16, 9]⟩

abbrev nBuf : Space → Nat
  | .hbm => 162
  | .vmem => 0
  | .smem => 0
  | _ => 0

abbrev hbmTy0_0 (i : Nat) : BufTy := match i % 128 with
  | 0 => ⟨S512x256x16x9, .f32⟩
  | 1 => ⟨S200x144, .f32⟩
  | 2 => ⟨S200x50, .f32⟩
  | 3 => ⟨S200, .f32⟩
  | 4 => ⟨S200, .f32⟩
  | 5 => ⟨S200x50, .f32⟩
  | 6 => ⟨S200x50, .f32⟩
  | 7 => ⟨S200, .f32⟩
  | 8 => ⟨S200, .f32⟩
  | 9 => ⟨S144x50, .f32⟩
  | 10 => ⟨S144, .f32⟩
  | 11 => ⟨S512x256x144, .f32⟩
  | 12 => ⟨S512x256x200, .f32⟩
  | 13 => ⟨S1x1x200, .f32⟩
  | 14 => ⟨S512x256x200, .f32⟩
  | 15 => ⟨S512x256x200, .f32⟩
  | 16 => ⟨S1x1x200, .f32⟩
  | 17 => ⟨S512x256x200, .f32⟩
  | 18 => ⟨S512x256x200, .f32⟩
  | 19 => ⟨S256x512x200, .f32⟩
  | 20 => ⟨S_, .f32⟩
  | 21 => ⟨S512x50, .f32⟩
  | 22 => ⟨S_, .f32⟩
  | 23 => ⟨S512x50, .f32⟩
  | 24 => ⟨S_, .f32⟩
  | 25 => ⟨S256x512x50, .f32⟩
  | 26 => ⟨S_, .i32⟩
  | 27 => ⟨S256x512x200, .f32⟩
  | 28 => ⟨S200x50, .f32⟩
  | 29 => ⟨S_, .i32⟩
  | 30 => ⟨S512x50, .f32⟩
  | 31 => ⟨S512x50, .f32⟩
  | 32 => ⟨S256x512x50, .f32⟩
  | 33 => ⟨S_, .i32⟩
  | 34 => ⟨S_, .i1⟩
  | 35 => ⟨S_, .i32⟩
  | 36 => ⟨S_, .i32⟩
  | 37 => ⟨S1x512x200, .f32⟩
  | 38 => ⟨S512x200, .f32⟩
  | 39 => ⟨S50x200, .f32⟩
  | 40 => ⟨S512x200, .f32⟩
  | 41 => ⟨S512x200, .f32⟩
  | 42 => ⟨S512x50, .f32⟩
  | 43 => ⟨S512x50, .f32⟩
  | 44 => ⟨S512x50, .f32⟩
  | 45 => ⟨S512x50, .f32⟩
  | 46 => ⟨S512x50, .f32⟩
  | 47 => ⟨S512x50, .f32⟩
  | 48 => ⟨S_, .f32⟩
  | 49 => ⟨S512x50, .f32⟩
  | 50 => ⟨S512x50, .f32⟩
  | 51 => ⟨S_, .f32⟩
  | 52 => ⟨S512x50, .f32⟩
  | 53 => ⟨S512x50, .f32⟩
  | 54 => ⟨S512x50, .f32⟩
  | 55 => ⟨S512x50, .f32⟩
  | 56 => ⟨S_, .f32⟩
  | 57 => ⟨S512x50, .f32⟩
  | 58 => ⟨S512x50, .f32⟩
  | 59 => ⟨S_, .f32⟩
  | 60 => ⟨S512x50, .f32⟩
  | 61 => ⟨S512x50, .f32⟩
  | 62 => ⟨S512x50, .f32⟩
  | 63 => ⟨S512x50, .f32⟩
  | 64 => ⟨S512x50, .f32⟩
  | 65 => ⟨S_, .f32⟩
  | 66 => ⟨S512x50, .f32⟩
  | 67 => ⟨S512x50, .f32⟩
  | 68 => ⟨S_, .f32⟩
  | 69 => ⟨S512x50, .f32⟩
  | 70 => ⟨S512x50, .f32⟩
  | 71 => ⟨S512x50, .f32⟩
  | 72 => ⟨S512x50, .f32⟩
  | 73 => ⟨S512x50, .f32⟩
  | 74 => ⟨S512x50, .f32⟩
  | 75 => ⟨S512x50, .f32⟩
  | 76 => ⟨S1x512x50, .f32⟩
  | 77 => ⟨S_, .i32⟩
  | 78 => ⟨S_, .i32⟩
  | 79 => ⟨S256x512x50, .f32⟩
  | 80 => ⟨S_, .i32⟩
  | 81 => ⟨S_, .i32⟩
  | 82 => ⟨S512x256x50, .f32⟩
  | 83 => ⟨S512x256x200, .f32⟩
  | 84 => ⟨S1x1x200, .f32⟩
  | 85 => ⟨S512x256x200, .f32⟩
  | 86 => ⟨S512x256x200, .f32⟩
  | 87 => ⟨S1x1x200, .f32⟩
  | 88 => ⟨S512x256x200, .f32⟩
  | 89 => ⟨S512x256x200, .f32⟩
  | 90 => ⟨S256x512x200, .f32⟩
  | 91 => ⟨S_, .f32⟩
  | 92 => ⟨S512x50, .f32⟩
  | 93 => ⟨S_, .f32⟩
  | 94 => ⟨S512x50, .f32⟩
  | 95 => ⟨S_, .f32⟩
  | 96 => ⟨S256x512x50, .f32⟩
  | 97 => ⟨S_, .i32⟩
  | 98 => ⟨S256x512x200, .f32⟩
  | 99 => ⟨S200x50, .f32⟩
  | 100 => ⟨S_, .i32⟩
  | 101 => ⟨S512x50, .f32⟩
  | 102 => ⟨S512x50, .f32⟩
  | 103 => ⟨S256x512x50, .f32⟩
  | 104 => ⟨S_, .i32⟩
  | 105 => ⟨S_, .i1⟩
  | 106 => ⟨S_, .i32⟩
  | 107 => ⟨S_, .i32⟩
  | 108 => ⟨S1x512x200, .f32⟩
  | 109 => ⟨S512x200, .f32⟩
  | 110 => ⟨S50x200, .f32⟩
  | 111 => ⟨S512x200, .f32⟩
  | 112 => ⟨S512x200, .f32⟩
  | 113 => ⟨S512x50, .f32⟩
  | 114 => ⟨S512x50, .f32⟩
  | 115 => ⟨S512x50, .f32⟩
  | 116 => ⟨S512x50, .f32⟩
  | 117 => ⟨S512x50, .f32⟩
  | 118 => ⟨S512x50, .f32⟩
  | 119 => ⟨S_, .f32⟩
  | 120 => ⟨S512x50, .f32⟩
  | 121 => ⟨S512x50, .f32⟩
  | 122 => ⟨S_, .f32⟩
  | 123 => ⟨S512x50, .f32⟩
  | 124 => ⟨S512x50, .f32⟩
  | 125 => ⟨S512x50, .f32⟩
  | 126 => ⟨S512x50, .f32⟩
  | 127 => ⟨S_, .f32⟩
  | _ => ⟨S512x256x16x9, .f32⟩

abbrev hbmTy0_1 (i : Nat) : BufTy := match i % 128 with
  | 0 => ⟨S512x50, .f32⟩
  | 1 => ⟨S512x50, .f32⟩
  | 2 => ⟨S_, .f32⟩
  | 3 => ⟨S512x50, .f32⟩
  | 4 => ⟨S512x50, .f32⟩
  | 5 => ⟨S512x50, .f32⟩
  | 6 => ⟨S512x50, .f32⟩
  | 7 => ⟨S512x50, .f32⟩
  | 8 => ⟨S_, .f32⟩
  | 9 => ⟨S512x50, .f32⟩
  | 10 => ⟨S512x50, .f32⟩
  | 11 => ⟨S_, .f32⟩
  | 12 => ⟨S512x50, .f32⟩
  | 13 => ⟨S512x50, .f32⟩
  | 14 => ⟨S512x50, .f32⟩
  | 15 => ⟨S512x50, .f32⟩
  | 16 => ⟨S512x50, .f32⟩
  | 17 => ⟨S512x50, .f32⟩
  | 18 => ⟨S512x50, .f32⟩
  | 19 => ⟨S1x512x50, .f32⟩
  | 20 => ⟨S_, .i32⟩
  | 21 => ⟨S_, .i32⟩
  | 22 => ⟨S256x512x50, .f32⟩
  | 23 => ⟨S_, .i32⟩
  | 24 => ⟨S_, .i32⟩
  | 25 => ⟨S512x256x50, .f32⟩
  | 26 => ⟨S512x1x50, .f32⟩
  | 27 => ⟨S512x50, .f32⟩
  | 28 => ⟨S50x144, .f32⟩
  | 29 => ⟨S512x144, .f32⟩
  | 30 => ⟨S1x144, .f32⟩
  | 31 => ⟨S512x144, .f32⟩
  | 32 => ⟨S512x144, .f32⟩
  | 33 => ⟨S512x16x9, .f32⟩
  | _ => ⟨S512x256x16x9, .f32⟩

abbrev hbmTy (i : Nat) : BufTy := match i / 128 with
  | 0 => hbmTy0_0 i
  | 1 => hbmTy0_1 i
  | _ => ⟨S512x256x16x9, .f32⟩

abbrev bufTy : (tb : Table) → Fin (tcTables nBuf tb) → BufTy
  | .hbm, ⟨i, _⟩ => hbmTy i
  | _, _ => ⟨S512x256x16x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_c : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v12_4 : Ref sig .tc := ⟨.hbm, 31, rfl⟩
abbrev main_v12_5 : Ref sig .tc := ⟨.hbm, 32, rfl⟩
abbrev main_while0c_c_11 : Ref sig .tc := ⟨.hbm, 33, rfl⟩
abbrev main_while0c_v35 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_v0 : Ref sig .tc := ⟨.hbm, 37, rfl⟩
abbrev main_while0b_v35 : Ref sig .tc := ⟨.hbm, 38, rfl⟩
abbrev main_while0b_v36 : Ref sig .tc := ⟨.hbm, 39, rfl⟩
abbrev main_while0b_v37 : Ref sig .tc := ⟨.hbm, 40, rfl⟩
abbrev main_while0b_v38 : Ref sig .tc := ⟨.hbm, 41, rfl⟩
abbrev main_while0b_v39 : Ref sig .tc := ⟨.hbm, 42, rfl⟩
abbrev main_while0b_v40 : Ref sig .tc := ⟨.hbm, 43, rfl⟩
abbrev main_while0b_v41 : Ref sig .tc := ⟨.hbm, 44, rfl⟩
abbrev main_while0b_v42 : Ref sig .tc := ⟨.hbm, 45, rfl⟩
abbrev main_while0b_v43 : Ref sig .tc := ⟨.hbm, 46, rfl⟩
abbrev main_while0b_v44 : Ref sig .tc := ⟨.hbm, 47, rfl⟩
abbrev main_while0b_cst_11 : Ref sig .tc := ⟨.hbm, 48, rfl⟩
abbrev main_while0b_v45 : Ref sig .tc := ⟨.hbm, 49, rfl⟩
abbrev main_while0b_v46 : Ref sig .tc := ⟨.hbm, 50, rfl⟩
abbrev main_while0b_cst_12 : Ref sig .tc := ⟨.hbm, 51, rfl⟩
abbrev main_while0b_v47 : Ref sig .tc := ⟨.hbm, 52, rfl⟩
abbrev main_while0b_v48 : Ref sig .tc := ⟨.hbm, 53, rfl⟩
abbrev main_while0b_v49 : Ref sig .tc := ⟨.hbm, 54, rfl⟩
abbrev main_while0b_v50 : Ref sig .tc := ⟨.hbm, 55, rfl⟩
abbrev main_while0b_cst_13 : Ref sig .tc := ⟨.hbm, 56, rfl⟩
abbrev main_while0b_v51 : Ref sig .tc := ⟨.hbm, 57, rfl⟩
abbrev main_while0b_v52 : Ref sig .tc := ⟨.hbm, 58, rfl⟩
abbrev main_while0b_cst_14 : Ref sig .tc := ⟨.hbm, 59, rfl⟩
abbrev main_while0b_v53 : Ref sig .tc := ⟨.hbm, 60, rfl⟩
abbrev main_while0b_v54 : Ref sig .tc := ⟨.hbm, 61, rfl⟩
abbrev main_while0b_v55 : Ref sig .tc := ⟨.hbm, 62, rfl⟩
abbrev main_while0b_v56 : Ref sig .tc := ⟨.hbm, 63, rfl⟩
abbrev main_while0b_v57 : Ref sig .tc := ⟨.hbm, 64, rfl⟩
abbrev main_while0b_cst_15 : Ref sig .tc := ⟨.hbm, 65, rfl⟩
abbrev main_while0b_v58 : Ref sig .tc := ⟨.hbm, 66, rfl⟩
abbrev main_while0b_v59 : Ref sig .tc := ⟨.hbm, 67, rfl⟩
abbrev main_while0b_cst_16 : Ref sig .tc := ⟨.hbm, 68, rfl⟩
abbrev main_while0b_v60 : Ref sig .tc := ⟨.hbm, 69, rfl⟩
abbrev main_while0b_v61 : Ref sig .tc := ⟨.hbm, 70, rfl⟩
abbrev main_while0b_v62 : Ref sig .tc := ⟨.hbm, 71, rfl⟩
abbrev main_while0b_v63 : Ref sig .tc := ⟨.hbm, 72, rfl⟩
abbrev main_while0b_v64 : Ref sig .tc := ⟨.hbm, 73, rfl⟩
abbrev main_while0b_v65 : Ref sig .tc := ⟨.hbm, 74, rfl⟩
abbrev main_while0b_v66 : Ref sig .tc := ⟨.hbm, 75, rfl⟩
abbrev main_while0b_call1_v0 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_v67 : Ref sig .tc := ⟨.hbm, 79, rfl⟩
abbrev main_while0b_c_17 : Ref sig .tc := ⟨.hbm, 80, rfl⟩
abbrev main_while0b_v68 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_cst_2 : Ref sig .tc := ⟨.hbm, 91, rfl⟩
abbrev main_v22 : Ref sig .tc := ⟨.hbm, 92, rfl⟩
abbrev main_cst_3 : Ref sig .tc := ⟨.hbm, 93, rfl⟩
abbrev main_v23 : Ref sig .tc := ⟨.hbm, 94, rfl⟩
abbrev main_cst_4 : Ref sig .tc := ⟨.hbm, 95, rfl⟩
abbrev main_v24 : Ref sig .tc := ⟨.hbm, 96, rfl⟩
abbrev main_c_5 : Ref sig .tc := ⟨.hbm, 97, rfl⟩
abbrev main_v25_0 : Ref sig .tc := ⟨.hbm, 98, rfl⟩
abbrev main_v25_1 : Ref sig .tc := ⟨.hbm, 99, rfl⟩
abbrev main_v25_2 : Ref sig .tc := ⟨.hbm, 100, rfl⟩
abbrev main_v25_3 : Ref sig .tc := ⟨.hbm, 101, rfl⟩
abbrev main_v25_4 : Ref sig .tc := ⟨.hbm, 102, rfl⟩
abbrev main_v25_5 : Ref sig .tc := ⟨.hbm, 103, rfl⟩
abbrev main_while1c_c_11 : Ref sig .tc := ⟨.hbm, 104, rfl⟩
abbrev main_while1c_v35 : Ref sig .tc := ⟨.hbm, 105, rfl⟩
abbrev main_while1b_call2_c : Ref sig .tc := ⟨.hbm, 106, rfl⟩
abbrev main_while1b_call2_c_0 : Ref sig .tc := ⟨.hbm, 107, rfl⟩
abbrev main_while1b_call2_v0 : Ref sig .tc := ⟨.hbm, 108, rfl⟩
abbrev main_while1b_v35 : Ref sig .tc := ⟨.hbm, 109, rfl⟩
abbrev main_while1b_v36 : Ref sig .tc := ⟨.hbm, 110, rfl⟩
abbrev main_while1b_v37 : Ref sig .tc := ⟨.hbm, 111, rfl⟩
abbrev main_while1b_v38 : Ref sig .tc := ⟨.hbm, 112, rfl⟩
abbrev main_while1b_v39 : Ref sig .tc := ⟨.hbm, 113, rfl⟩
abbrev main_while1b_v40 : Ref sig .tc := ⟨.hbm, 114, rfl⟩
abbrev main_while1b_v41 : Ref sig .tc := ⟨.hbm, 115, rfl⟩
abbrev main_while1b_v42 : Ref sig .tc := ⟨.hbm, 116, rfl⟩
abbrev main_while1b_v43 : Ref sig .tc := ⟨.hbm, 117, rfl⟩
abbrev main_while1b_v44 : Ref sig .tc := ⟨.hbm, 118, rfl⟩
abbrev main_while1b_cst_11 : Ref sig .tc := ⟨.hbm, 119, rfl⟩
abbrev main_while1b_v45 : Ref sig .tc := ⟨.hbm, 120, rfl⟩
abbrev main_while1b_v46 : Ref sig .tc := ⟨.hbm, 121, rfl⟩
abbrev main_while1b_cst_12 : Ref sig .tc := ⟨.hbm, 122, rfl⟩
abbrev main_while1b_v47 : Ref sig .tc := ⟨.hbm, 123, rfl⟩
abbrev main_while1b_v48 : Ref sig .tc := ⟨.hbm, 124, rfl⟩
abbrev main_while1b_v49 : Ref sig .tc := ⟨.hbm, 125, rfl⟩
abbrev main_while1b_v50 : Ref sig .tc := ⟨.hbm, 126, rfl⟩
abbrev main_while1b_cst_13 : Ref sig .tc := ⟨.hbm, 127, rfl⟩
abbrev main_while1b_v51 : Ref sig .tc := ⟨.hbm, 128, rfl⟩
abbrev main_while1b_v52 : Ref sig .tc := ⟨.hbm, 129, rfl⟩
abbrev main_while1b_cst_14 : Ref sig .tc := ⟨.hbm, 130, rfl⟩
abbrev main_while1b_v53 : Ref sig .tc := ⟨.hbm, 131, rfl⟩
abbrev main_while1b_v54 : Ref sig .tc := ⟨.hbm, 132, rfl⟩
abbrev main_while1b_v55 : Ref sig .tc := ⟨.hbm, 133, rfl⟩
abbrev main_while1b_v56 : Ref sig .tc := ⟨.hbm, 134, rfl⟩
abbrev main_while1b_v57 : Ref sig .tc := ⟨.hbm, 135, rfl⟩
abbrev main_while1b_cst_15 : Ref sig .tc := ⟨.hbm, 136, rfl⟩
abbrev main_while1b_v58 : Ref sig .tc := ⟨.hbm, 137, rfl⟩
abbrev main_while1b_v59 : Ref sig .tc := ⟨.hbm, 138, rfl⟩
abbrev main_while1b_cst_16 : Ref sig .tc := ⟨.hbm, 139, rfl⟩
abbrev main_while1b_v60 : Ref sig .tc := ⟨.hbm, 140, rfl⟩
abbrev main_while1b_v61 : Ref sig .tc := ⟨.hbm, 141, rfl⟩
abbrev main_while1b_v62 : Ref sig .tc := ⟨.hbm, 142, rfl⟩
abbrev main_while1b_v63 : Ref sig .tc := ⟨.hbm, 143, rfl⟩
abbrev main_while1b_v64 : Ref sig .tc := ⟨.hbm, 144, rfl⟩
abbrev main_while1b_v65 : Ref sig .tc := ⟨.hbm, 145, rfl⟩
abbrev main_while1b_v66 : Ref sig .tc := ⟨.hbm, 146, rfl⟩
abbrev main_while1b_call3_v0 : Ref sig .tc := ⟨.hbm, 147, rfl⟩
abbrev main_while1b_call3_c : Ref sig .tc := ⟨.hbm, 148, rfl⟩
abbrev main_while1b_call3_c_0 : Ref sig .tc := ⟨.hbm, 149, rfl⟩
abbrev main_while1b_v67 : Ref sig .tc := ⟨.hbm, 150, rfl⟩
abbrev main_while1b_c_17 : Ref sig .tc := ⟨.hbm, 151, rfl⟩
abbrev main_while1b_v68 : Ref sig .tc := ⟨.hbm, 152, rfl⟩
abbrev main_v26 : Ref sig .tc := ⟨.hbm, 153, rfl⟩
abbrev main_v27 : Ref sig .tc := ⟨.hbm, 154, rfl⟩
abbrev main_v28 : Ref sig .tc := ⟨.hbm, 155, rfl⟩
abbrev main_v29 : Ref sig .tc := ⟨.hbm, 156, rfl⟩
abbrev main_v30 : Ref sig .tc := ⟨.hbm, 157, rfl⟩
abbrev main_v31 : Ref sig .tc := ⟨.hbm, 158, rfl⟩
abbrev main_v32 : Ref sig .tc := ⟨.hbm, 159, rfl⟩
abbrev main_v33 : Ref sig .tc := ⟨.hbm, 160, rfl⟩
abbrev main_v34 : Ref sig .tc := ⟨.hbm, 161, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== Proof.RI.Ops.lean ====
/- The reference program as stretches of host operations around its two counted loops. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4000

noncomputable section

namespace Cert.ReferenceIdeal.Ref

open Idealize.ShloMosaic Idealize.ShloMosaic.TcCoe
open Idealize.SL Idealize.SL.Sem Cert.ReferenceIdeal.Facts₀ Cert.ReferenceIdeal.Facts

variable {F : FTy → Type} [FloatOps F]

/-- Before the first loop: the first layer's input products and the starting values. -/
abbrev pre : List (HloOp τ sig (Elt F)) :=
  [ StableHlo.reshape main_arg0 main_v0 (rfl : (.f32 : EltTy) = .f32) shapeCasts_S512x256x16x9_S512x256x144,
    StableHlo.binary main_v0 main_arg1 main_v1 ((fun l r => Host.dotGeneral dot_S512x256x144_S200x144_S512x256x200_2_1_01_0_n_n none l r) : (⟨S512x256x144, .f32⟩ : BufTy).Contents (Elt F) → (⟨S200x144, .f32⟩ : BufTy).Contents (Elt F) → (⟨S512x256x200, .f32⟩ : BufTy).Contents (Elt F)),
    StableHlo.unary main_arg3 main_v2 (broadcastInDim S1x1x200 ![2] bcast_S200_S1x1x200_2 : (⟨S200, .f32⟩ : BufTy).Contents (Elt F) → (⟨S1x1x200, .f32⟩ : BufTy).Contents (Elt F)),
    StableHlo.unary main_v2 main_v3 (broadcastInDim S512x256x200 ![0, 1, 2] bcast_S1x1x200_S512x256x200_0_1_2 : (⟨S1x1x200, .f32⟩ : BufTy).Contents (Elt F) → (⟨S512x256x200, .f32⟩ : BufTy).Contents (Elt F)),
    StableHlo.binary main_v1 main_v3 main_v4 (addf : (⟨S512x256x200, .f32⟩ : BufTy).Contents (Elt F) → (⟨S512x256x200, .f32⟩ : BufTy).Contents (Elt F) → (⟨S512x256x200, .f32⟩ : BufTy).Contents (Elt F)),
    StableHlo.unary main_arg4 main_v5 (broadcastInDim S1x1x200 ![2] bcast_S200_S1x1x200_2 : (⟨S200, .f32⟩ : BufTy).Contents (Elt F) → (⟨S1x1x200, .f32⟩ : BufTy).Contents (Elt F)),
    StableHlo.unary main_v5 main_v6 (broadcastInDim S512x256x200 ![0, 1, 2] bcast_S1x1x200_S512x256x200_0_1_2 : (⟨S1x1x200, .f32⟩ : BufTy).Contents (Elt F) → (⟨S512x256x200, .f32⟩ : BufTy).Contents (Elt F)),
    StableHlo.binary main_v4 main_v6 main_v7 (addf : (⟨S512x256x200, .f32⟩ : BufTy).Contents (Elt F) → (⟨S512x256x200, .f32⟩ : BufTy).Contents (Elt F) → (⟨S512x256x200, .f32⟩ : BufTy).Contents (Elt F)),
    StableHlo.unary main_v7 main_v8 ((transpose S256x512x200 [1, 0, 2] · transposes_S512x256x200_S256x512x200_1_0_2) : (⟨S512x256x200, .f32⟩ : BufTy).Contents (Elt F) → (⟨S256x512x200, .f32⟩ : BufTy).Contents (Elt F)),
    StableHlo.nullary main_cst (constant S_ .f32 0x00000000#32),
    StableHlo.unary main_cst main_v9 (broadcastInDim S512x50 ![] bcast_S_S512x50 : (⟨S_, .f32⟩ : BufTy).Contents (Elt F) → (⟨S512x50, .f32⟩ : BufTy).Contents (Elt F)),
    StableHlo.nullary main_cst_0 (constant S_ .f32 0x00000000#32),
    StableHlo.unary main_cst_0 main_v10 (broadcastInDim S512x50 ![] bcast_S_S512x50 : (⟨S_, .f32⟩ : BufTy).Contents (Elt F) → (⟨S512x50, .f32⟩ : BufTy).Contents (Elt F)),
    StableHlo.nullary main_cst_1 (constant S_ .f32 0x00000000#32),
    StableHlo.unary main_cst_1 main_v11 (broadcastInDim S256x512x50 ![] bcast_S_S256x512x50 : (⟨S_, .f32⟩ : BufTy).Contents (Elt F) → (⟨S256x512x50, .f32⟩ : BufTy).Contents (Elt F)),
    StableHlo.nullary main_c (constantI S_ 32 0#32),
    StableHlo.unary main_v8 main_v12_0 id,
    StableHlo.unary main_arg2 main_v12_1 id,
    StableHlo.unary main_c main_v12_2 id,
    StableHlo.unary main_v9 main_v12_3 id,
    StableHlo.unary main_v10 main_v12_4 id,
    StableHlo.unary main_v11 main_v12_5 id ]

/-- Between the loops: the second layer's input products and the starting values. -/
abbrev mid : List (HloOp τ sig (Elt F)) :=
  [ StableHlo.unary main_v12_5 main_v13 ((transpose S512x256x50 [1, 0, 2] · transposes_S256x512x50_S512x256x50_1_0_2) : (⟨S256x512x50, .f32⟩ : BufTy).Contents (Elt F) → (⟨S512x256x50, .f32⟩ : BufTy).Contents (Elt F)),
    StableHlo.binary main_v13 main_arg5 main_v14 ((fun l r => Host.dotGeneral dot_S512x256x50_S200x50_S512x256x200_2_1_01_0_n_n none l r) : (⟨S512x256x50, .f32⟩ : BufTy).Contents (Elt F) → (⟨S200x50, .f32⟩ : BufTy).Contents (Elt F) → (⟨S512x256x200, .f32⟩ : BufTy).Contents (Elt F)),
    StableHlo.unary main_arg7 main_v15 (broadcastInDim S1x1x200 ![2] bcast_S200_S1x1x200_2 : (⟨S200, .f32⟩ : BufTy).Contents (Elt F) → (⟨S1x1x200, .f32⟩ : BufTy).Contents (Elt F)),
    StableHlo.unary main_v15 main_v16 (broadcastInDim S512x256x200 ![0, 1, 2] bcast_S1x1x200_S512x256x200_0_1_2 : (⟨S1x1x200, .f32⟩ : BufTy).Contents (Elt F) → (⟨S512x256x200, .f32⟩ : BufTy).Contents (Elt F)),
    StableHlo.binary main_v14 main_v16 main_v17 (addf : (⟨S512x256x200, .f32⟩ : BufTy).Contents (Elt F) → (⟨S512x256x200, .f32⟩ : BufTy).Contents (Elt F) → (⟨S512x256x200, .f32⟩ : BufTy).Contents (Elt F)),
    StableHlo.unary main_arg8 main_v18 (broadcastInDim S1x1x200 ![2] bcast_S200_S1x1x200_2 : (⟨S200, .f32⟩ : BufTy).Contents (Elt F) → (⟨S1x1x200, .f32⟩ : BufTy).Contents (Elt F)),
    StableHlo.unary main_v18 main_v19 (broadcastInDim S512x256x200 ![0, 1, 2] bcast_S1x1x200_S512x256x200_0_1_2 : (⟨S1x1x200, .f32⟩ : BufTy).Contents (Elt F) → (⟨S512x256x200, .f32⟩ : BufTy).Contents (Elt F)),
    StableHlo.binary main_v17 main_v19 main_v20 (addf : (⟨S512x256x200, .f32⟩ : BufTy).Contents (Elt F) → (⟨S512x256x200, .f32⟩ : BufTy).Contents (Elt F) → (⟨S512x256x200, .f32⟩ : BufTy).Contents (Elt F)),
    StableHlo.unary main_v20 main_v21 ((transpose S256x512x200 [1, 0, 2] · transposes_S512x256x200_S256x512x200_1_0_2) : (⟨S512x256x200, .f32⟩ : BufTy).Contents (Elt F) → (⟨S256x512x200, .f32⟩ : BufTy).Contents (Elt F)),
    StableHlo.nullary main_cst_2 (constant S_ .f32 0x00000000#32),
    StableHlo.unary main_cst_2 main_v22 (broadcastInDim S512x50 ![] bcast_S_S512x50 : (⟨S_, .f32⟩ : BufTy).Contents (Elt F) → (⟨S512x50, .f32⟩ : BufTy).Contents (Elt F)),
    StableHlo.nullary main_cst_3 (constant S_ .f32 0x00000000#32),
    StableHlo.unary main_cst_3 main_v23 (broadcastInDim S512x50 ![] bcast_S_S512x50 : (⟨S_, .f32⟩ : BufTy).Contents (Elt F) → (⟨S512x50, .f32⟩ : BufTy).Contents (Elt F)),
    StableHlo.nullary main_cst_4 (constant S_ .f32 0x00000000#32),
    StableHlo.unary main_cst_4 main_v24 (broadcastInDim S256x512x50 ![] bcast_S_S256x512x50 : (⟨S_, .f32⟩ : BufTy).Contents (Elt F) → (⟨S256x512x50, .f32⟩ : BufTy).Contents (Elt F)),
    StableHlo.nullary main_c_5 (constantI S_ 32 0#32),
    StableHlo.unary main_v21 main_v25_0 id,
    StableHlo.unary main_arg6 main_v25_1 id,
    StableHlo.unary main_c_5 main_v25_2 id,
    StableHlo.unary main_v22 main_v25_3 id,
    StableHlo.unary main_v23 main_v25_4 id,
    StableHlo.unary main_v24 main_v25_5 id ]

/-- After the second loop: the last hidden state and the head. -/
abbrev post : List (HloOp τ sig (Elt F)) :=
  [ StableHlo.unary main_v25_5 main_v26 ((transpose S512x256x50 [1, 0, 2] · transposes_S256x512x50_S512x256x50_1_0_2) : (⟨S256x512x50, .f32⟩ : BufTy).Contents (Elt F) → (⟨S512x256x50, .f32⟩ : BufTy).Contents (Elt F)),
    StableHlo.unary main_v26 main_v27 ((extractStridedSlice S512x1x50 ![0, 255, 0] · slices_S512x256x50_S512x1x50_0_255_0) : (⟨S512x256x50, .f32⟩ : BufTy).Contents (Elt F) → (⟨S512x1x50, .f32⟩ : BufTy).Contents (Elt F)),
    StableHlo.reshape main_v27 main_v28 (rfl : (.f32 : EltTy) = .f32) shapeCasts_S512x1x50_S512x50,
    StableHlo.unary main_arg9 main_v29 ((transpose S50x144 [1, 0] · transposes_S144x50_S50x144_1_0) : (⟨S144x50, .f32⟩ : BufTy).Contents (Elt F) → (⟨S50x144, .f32⟩ : BufTy).Contents (Elt F)),
    StableHlo.binary main_v28 main_v29 main_v30 ((fun l r => Host.dotGeneral dot_S512x50_S50x144_S512x144_1_0_0_1_n_n none l r) : (⟨S512x50, .f32⟩ : BufTy).Contents (Elt F) → (⟨S50x144, .f32⟩ : BufTy).Contents (Elt F) → (⟨S512x144, .f32⟩ : BufTy).Contents (Elt F)),
    StableHlo.unary main_arg10 main_v31 (broadcastInDim S1x144 ![1] bcast_S144_S1x144_1 : (⟨S144, .f32⟩ : BufTy).Contents (Elt F) → (⟨S1x144, .f32⟩ : BufTy).Contents (Elt F)),
    StableHlo.unary main_v31 main_v32 (broadcastInDim S512x144 ![0, 1] bcast_S1x144_S512x144_0_1 : (⟨S1x144, .f32⟩ : BufTy).Contents (Elt F) → (⟨S512x144, .f32⟩ : BufTy).Contents (Elt F)),
    StableHlo.binary main_v30 main_v32 main_v33 (addf : (⟨S512x144, .f32⟩ : BufTy).Contents (Elt F) → (⟨S512x144, .f32⟩ : BufTy).Contents (Elt F) → (⟨S512x144, .f32⟩ : BufTy).Contents (Elt F)),
    StableHlo.reshape main_v33 main_v34 (rfl : (.f32 : EltTy) = .f32) shapeCasts_S512x144_S512x16x9 ]

/-- Loop 0: the time step's inputs taken out. -/
abbrev idx0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v12_0 : StableHlo.TRef sig ⟨S256x512x200, .f32⟩) ![(.of main_v12_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x512x200, .f32⟩) (fun x i => Host.dynamicSlice S1x512x200 x (fun k => (i k (Shape.Idx.first h_S_)).toInt) sliceFits_S256x512x200_S1x512x200),
    StableHlo.TRef.reshape (.of main_while0b_call0_v0 : StableHlo.TRef sig ⟨S1x512x200, .f32⟩) (.of main_while0b_v35 : StableHlo.TRef sig ⟨S512x200, .f32⟩) (rfl : (.f32 : EltTy) = .f32) shapeCasts_S1x512x200_S512x200 ]

/-- Loop 0: the cell. -/
abbrev cell0 : List (HloOp τ sig (Elt F)) :=
  [ StableHlo.unary main_v12_1 main_while0b_v36 ((transpose S50x200 [1, 0] · transposes_S200x50_S50x200_1_0) : (⟨S200x50, .f32⟩ : BufTy).Contents (Elt F) → (⟨S50x200, .f32⟩ : BufTy).Contents (Elt F)),
    StableHlo.binary main_v12_3 main_while0b_v36 main_while0b_v37 ((fun l r => Host.dotGeneral dot_S512x50_S50x200_S512x200_1_0_0_1_n_n none l r) : (⟨S512x50, .f32⟩ : BufTy).Contents (Elt F) → (⟨S50x200, .f32⟩ : BufTy).Contents (Elt F) → (⟨S512x200, .f32⟩ : BufTy).Contents (Elt F)),
    StableHlo.binary main_while0b_v35 main_while0b_v37 main_while0b_v38 (addf : (⟨S512x200, .f32⟩ : BufTy).Contents (Elt F) → (⟨S512x200, .f32⟩ : BufTy).Contents (Elt F) → (⟨S512x200, .f32⟩ : BufTy).Contents (Elt F)),
    StableHlo.unary main_while0b_v38 main_while0b_v39 ((extractStridedSlice S512x50 ![0, 0] · slices_S512x200_S512x50_0_0) : (⟨S512x200, .f32⟩ : BufTy).Contents (Elt F) → (⟨S512x50, .f32⟩ : BufTy).Contents (Elt F)),
    StableHlo.unary main_while0b_v38 main_while0b_v40 ((extractStridedSlice S512x50 ![0, 50] · slices_S512x200_S512x50_0_50) : (⟨S512x200, .f32⟩ : BufTy).Contents (Elt F) → (⟨S512x50, .f32⟩ : BufTy).Contents (Elt F)),
    StableHlo.unary main_while0b_v38 main_while0b_v41 ((extractStridedSlice S512x50 ![0, 100] · slices_S512x200_S512x50_0_100) : (⟨S512x200, .f32⟩ : BufTy).Contents (Elt F) → (⟨S512x50, .f32⟩ : BufTy).Contents (Elt F)),
    StableHlo.unary main_while0b_v38 main_while0b_v42 ((extractStridedSlice S512x50 ![0, 150] · slices_S512x200_S512x50_0_150) : (⟨S512x200, .f32⟩ : BufTy).Contents (Elt F) → (⟨S512x50, .f32⟩ : BufTy).Contents (Elt F)),
    StableHlo.unary main_while0b_v39 main_while0b_v43 (Host.negf : (⟨S512x50, .f32⟩ : BufTy).Contents (Elt F) → (⟨S512x50, .f32⟩ : BufTy).Contents (Elt F)),
    StableHlo.unary main_while0b_v43 main_while0b_v44 (Host.exp : (⟨S512x50, .f32⟩ : BufTy).Contents (Elt F) → (⟨S512x50, .f32⟩ : BufTy).Contents (Elt F)),
    StableHlo.nullary main_while0b_cst_11 (constant S_ .f32 0x3F800000#32),
    StableHlo.unary main_while0b_cst_11 main_while0b_v45 (broadcastInDim S512x50 ![] bcast_S_S512x50 : (⟨S_, .f32⟩ : BufTy).Contents (Elt F) → (⟨S512x50, .f32⟩ : BufTy).Contents (Elt F)),
    StableHlo.binary main_while0b_v45 main_while0b_v44 main_while0b_v46 (addf : (⟨S512x50, .f32⟩ : BufTy).Contents (Elt F) → (⟨S512x50, .f32⟩ : BufTy).Contents (Elt F) → (⟨S512x50, .f32⟩ : BufTy).Contents (Elt F)),
    StableHlo.nullary main_while0b_cst_12 (constant S_ .f32 0x3F800000#32),
    StableHlo.unary main_while0b_cst_12 main_while0b_v47 (broadcastInDim S512x50 ![] bcast_S_S512x50 : (⟨S_, .f32⟩ : BufTy).Contents (Elt F) → (⟨S512x50, .f32⟩ : BufTy).Contents (Elt F)),
    StableHlo.binary main_while0b_v47 main_while0b_v46 main_while0b_v48 (Host.divf : (⟨S512x50, .f32⟩ : BufTy).Contents (Elt F) → (⟨S512x50, .f32⟩ : BufTy).Contents (Elt F) → (⟨S512x50, .f32⟩ : BufTy).Contents (Elt F)),
    StableHlo.unary main_while0b_v40 main_while0b_v49 (Host.negf : (⟨S512x50, .f32⟩ : BufTy).Contents (Elt F) → (⟨S512x50, .f32⟩ : BufTy).Contents (Elt F)),
    StableHlo.unary main_while0b_v49 main_while0b_v50 (Host.exp : (⟨S512x50, .f32⟩ : BufTy).Contents (Elt F) → (⟨S512x50, .f32⟩ : BufTy).Contents (Elt F)),
    StableHlo.nullary main_while0b_cst_13 (constant S_ .f32 0x3F800000#32),
    StableHlo.unary main_while0b_cst_13 main_while0b_v51 (broadcastInDim S512x50 ![] bcast_S_S512x50 : (⟨S_, .f32⟩ : BufTy).Contents (Elt F) → (⟨S512x50, .f32⟩ : BufTy).Contents (Elt F)),
    StableHlo.binary main_while0b_v51 main_while0b_v50 main_while0b_v52 (addf : (⟨S512x50, .f32⟩ : BufTy).Contents (Elt F) → (⟨S512x50, .f32⟩ : BufTy).Contents (Elt F) → (⟨S512x50, .f32⟩ : BufTy).Contents (Elt F)),
    StableHlo.nullary main_while0b_cst_14 (constant S_ .f32 0x3F800000#32),
    StableHlo.unary main_while0b_cst_14 main_while0b_v53 (broadcastInDim S512x50 ![] bcast_S_S512x50 : (⟨S_, .f32⟩ : BufTy).Contents (Elt F) → (⟨S512x50, .f32⟩ : BufTy).Contents (Elt F)),
    StableHlo.binary main_while0b_v53 main_while0b_v52 main_while0b_v54 (Host.divf : (⟨S512x50, .f32⟩ : BufTy).Contents (Elt F) → (⟨S512x50, .f32⟩ : BufTy).Contents (Elt F) → (⟨S512x50, .f32⟩ : BufTy).Contents (Elt F)),
    StableHlo.unary main_while0b_v41 main_while0b_v55 (Host.tanh : (⟨S512x50, .f32⟩ : BufTy).Contents (Elt F) → (⟨S512x50, .f32⟩ : BufTy).Contents (Elt F)),
    StableHlo.unary main_while0b_v42 main_while0b_v56 (Host.negf : (⟨S512x50, .f32⟩ : BufTy).Contents (Elt F) → (⟨S512x50, .f32⟩ : BufTy).Contents (Elt F)),
    StableHlo.unary main_while0b_v56 main_while0b_v57 (Host.exp : (⟨S512x50, .f32⟩ : BufTy).Contents (Elt F) → (⟨S512x50, .f32⟩ : BufTy).Contents (Elt F)),
    StableHlo.nullary main_while0b_cst_15 (constant S_ .f32 0x3F800000#32),
    StableHlo.unary main_while0b_cst_15 main_while0b_v58 (broadcastInDim S512x50 ![] bcast_S_S512x50 : (⟨S_, .f32⟩ : BufTy).Contents (Elt F) → (⟨S512x50, .f32⟩ : BufTy).Contents (Elt F)),
    StableHlo.binary main_while0b_v58 main_while0b_v57 main_while0b_v59 (addf : (⟨S512x50, .f32⟩ : BufTy).Contents (Elt F) → (⟨S512x50, .f32⟩ : BufTy).Contents (Elt F) → (⟨S512x50, .f32⟩ : BufTy).Contents (Elt F)),
    StableHlo.nullary main_while0b_cst_16 (constant S_ .f32 0x3F800000#32),
    StableHlo.unary main_while0b_cst_16 main_while0b_v60 (broadcastInDim S512x50 ![] bcast_S_S512x50 : (⟨S_, .f32⟩ : BufTy).Contents (Elt F) → (⟨S512x50, .f32⟩ : BufTy).Contents (Elt F)),
    StableHlo.binary main_while0b_v60 main_while0b_v59 main_while0b_v61 (Host.divf : (⟨S512x50, .f32⟩ : BufTy).Contents (Elt F) → (⟨S512x50, .f32⟩ : BufTy).Contents (Elt F) → (⟨S512x50, .f32⟩ : BufTy).Contents (Elt F)),
    StableHlo.binary main_while0b_v54 main_v12_4 main_while0b_v62 (mulf : (⟨S512x50, .f32⟩ : BufTy).Contents (Elt F) → (⟨S512x50, .f32⟩ : BufTy).Contents (Elt F) → (⟨S512x50, .f32⟩ : BufTy).Contents (Elt F)),
    StableHlo.binary main_while0b_v48 main_while0b_v55 main_while0b_v63 (mulf : (⟨S512x50, .f32⟩ : BufTy).Contents (Elt F) → (⟨S512x50, .f32⟩ : BufTy).Contents (Elt F) → (⟨S512x50, .f32⟩ : BufTy).Contents (Elt F)),
    StableHlo.binary main_while0b_v62 main_while0b_v63 main_while0b_v64 (addf : (⟨S512x50, .f32⟩ : BufTy).Contents (Elt F) → (⟨S512x50, .f32⟩ : BufTy).Contents (Elt F) → (⟨S512x50, .f32⟩ : BufTy).Contents (Elt F)),
    StableHlo.unary main_while0b_v64 main_while0b_v65 (Host.tanh : (⟨S512x50, .f32⟩ : BufTy).Contents (Elt F) → (⟨S512x50, .f32⟩ : BufTy).Contents (Elt F)),
    StableHlo.binary main_while0b_v61 main_while0b_v65 main_while0b_v66 (mulf : (⟨S512x50, .f32⟩ : BufTy).Contents (Elt F) → (⟨S512x50, .f32⟩ : BufTy).Contents (Elt F) → (⟨S512x50, .f32⟩ : BufTy).Contents (Elt F)) ]

/-- Loop 0: the hidden state put into the result. -/
abbrev upd0 : List (HloOp τ sig (Elt F)) :=
  [ StableHlo.TRef.unary (.of main_while0b_v66 : StableHlo.TRef sig ⟨S512x50, .f32⟩) (.of main_while0b_call1_v0 : StableHlo.TRef sig ⟨S1x512x50, .f32⟩) (broadcastInDim S1x512x50 ![1, 2] bcast_S512x50_S1x512x50_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v12_5 : StableHlo.TRef sig ⟨S256x512x50, .f32⟩) (.of main_while0b_call1_v0 : StableHlo.TRef sig ⟨S1x512x50, .f32⟩) ![(.of main_v12_2 : StableHlo.TRef sig ⟨S_, .i32⟩), (.of main_while0b_call1_c : StableHlo.TRef sig ⟨S_, .i32⟩), (.of main_while0b_call1_c_0 : StableHlo.TRef sig ⟨S_, .i32⟩)] (.of main_while0b_v67 : StableHlo.TRef sig ⟨S256x512x50, .f32⟩) (fun x u i => Host.dynamicUpdateSlice x u (fun k => (i k (Shape.Idx.first h_S_)).toInt) updateFits_S256x512x50_S1x512x50) ]

/-- Loop 0: the counter's step, and the carried values written back. -/
abbrev fin0 : List (HloOp τ sig (Elt F)) :=
  [ StableHlo.nullary main_while0b_c_17 (constantI S_ 32 1#32),
    StableHlo.binary main_v12_2 main_while0b_c_17 main_while0b_v68 (addi : (⟨S_, .i32⟩ : BufTy).Contents (Elt F) → (⟨S_, .i32⟩ : BufTy).Contents (Elt F) → (⟨S_, .i32⟩ : BufTy).Contents (Elt F)),
    StableHlo.unary main_while0b_v68 main_v12_2 id,
    StableHlo.unary main_while0b_v66 main_v12_3 id,
    StableHlo.unary main_while0b_v64 main_v12_4 id,
    StableHlo.unary main_while0b_v67 main_v12_5 id ]

/-- Loop 0: the counter compared with the number of steps. -/
abbrev cond0 : List (HloOp τ sig (Elt F)) :=
  [ StableHlo.nullary main_while0c_c_11 (constantI S_ 32 256#32),
    StableHlo.binary main_v12_2 main_while0c_c_11 main_while0c_v35 (cmpi .slt) ]

/-- Loop 1: the time step's inputs taken out. -/
abbrev idx1 : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v25_0 : StableHlo.TRef sig ⟨S256x512x200, .f32⟩) ![(.of main_v25_2 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x512x200, .f32⟩) (fun x i => Host.dynamicSlice S1x512x200 x (fun k => (i k (Shape.Idx.first h_S_)).toInt) sliceFits_S256x512x200_S1x512x200),
    StableHlo.TRef.reshape (.of main_while1b_call2_v0 : StableHlo.TRef sig ⟨S1x512x200, .f32⟩) (.of main_while1b_v35 : StableHlo.TRef sig ⟨S512x200, .f32⟩) (rfl : (.f32 : EltTy) = .f32) shapeCasts_S1x512x200_S512x200 ]

/-- Loop 1: the cell. -/
abbrev cell1 : List (HloOp τ sig (Elt F)) :=
  [ StableHlo.unary main_v25_1 main_while1b_v36 ((transpose S50x200 [1, 0] · transposes_S200x50_S50x200_1_0) : (⟨S200x50, .f32⟩ : BufTy).Contents (Elt F) → (⟨S50x200, .f32⟩ : BufTy).Contents (Elt F)),
    StableHlo.binary main_v25_3 main_while1b_v36 main_while1b_v37 ((fun l r => Host.dotGeneral dot_S512x50_S50x200_S512x200_1_0_0_1_n_n none l r) : (⟨S512x50, .f32⟩ : BufTy).Contents (Elt F) → (⟨S50x200, .f32⟩ : BufTy).Contents (Elt F) → (⟨S512x200, .f32⟩ : BufTy).Contents (Elt F)),
    StableHlo.binary main_while1b_v35 main_while1b_v37 main_while1b_v38 (addf : (⟨S512x200, .f32⟩ : BufTy).Contents (Elt F) → (⟨S512x200, .f32⟩ : BufTy).Contents (Elt F) → (⟨S512x200, .f32⟩ : BufTy).Contents (Elt F)),
    StableHlo.unary main_while1b_v38 main_while1b_v39 ((extractStridedSlice S512x50 ![0, 0] · slices_S512x200_S512x50_0_0) : (⟨S512x200, .f32⟩ : BufTy).Contents (Elt F) → (⟨S512x50, .f32⟩ : BufTy).Contents (Elt F)),
    StableHlo.unary main_while1b_v38 main_while1b_v40 ((extractStridedSlice S512x50 ![0, 50] · slices_S512x200_S512x50_0_50) : (⟨S512x200, .f32⟩ : BufTy).Contents (Elt F) → (⟨S512x50, .f32⟩ : BufTy).Contents (Elt F)),
    StableHlo.unary main_while1b_v38 main_while1b_v41 ((extractStridedSlice S512x50 ![0, 100] · slices_S512x200_S512x50_0_100) : (⟨S512x200, .f32⟩ : BufTy).Contents (Elt F) → (⟨S512x50, .f32⟩ : BufTy).Contents (Elt F)),
    StableHlo.unary main_while1b_v38 main_while1b_v42 ((extractStridedSlice S512x50 ![0, 150] · slices_S512x200_S512x50_0_150) : (⟨S512x200, .f32⟩ : BufTy).Contents (Elt F) → (⟨S512x50, .f32⟩ : BufTy).Contents (Elt F)),
    StableHlo.unary main_while1b_v39 main_while1b_v43 (Host.negf : (⟨S512x50, .f32⟩ : BufTy).Contents (Elt F) → (⟨S512x50, .f32⟩ : BufTy).Contents (Elt F)),
    StableHlo.unary main_while1b_v43 main_while1b_v44 (Host.exp : (⟨S512x50, .f32⟩ : BufTy).Contents (Elt F) → (⟨S512x50, .f32⟩ : BufTy).Contents (Elt F)),
    StableHlo.nullary main_while1b_cst_11 (constant S_ .f32 0x3F800000#32),
    StableHlo.unary main_while1b_cst_11 main_while1b_v45 (broadcastInDim S512x50 ![] bcast_S_S512x50 : (⟨S_, .f32⟩ : BufTy).Contents (Elt F) → (⟨S512x50, .f32⟩ : BufTy).Contents (Elt F)),
    StableHlo.binary main_while1b_v45 main_while1b_v44 main_while1b_v46 (addf : (⟨S512x50, .f32⟩ : BufTy).Contents (Elt F) → (⟨S512x50, .f32⟩ : BufTy).Contents (Elt F) → (⟨S512x50, .f32⟩ : BufTy).Contents (Elt F)),
    StableHlo.nullary main_while1b_cst_12 (constant S_ .f32 0x3F800000#32),
    StableHlo.unary main_while1b_cst_12 main_while1b_v47 (broadcastInDim S512x50 ![] bcast_S_S512x50 : (⟨S_, .f32⟩ : BufTy).Contents (Elt F) → (⟨S512x50, .f32⟩ : BufTy).Contents (Elt F)),
    StableHlo.binary main_while1b_v47 main_while1b_v46 main_while1b_v48 (Host.divf : (⟨S512x50, .f32⟩ : BufTy).Contents (Elt F) → (⟨S512x50, .f32⟩ : BufTy).Contents (Elt F) → (⟨S512x50, .f32⟩ : BufTy).Contents (Elt F)),
    StableHlo.unary main_while1b_v40 main_while1b_v49 (Host.negf : (⟨S512x50, .f32⟩ : BufTy).Contents (Elt F) → (⟨S512x50, .f32⟩ : BufTy).Contents (Elt F)),
    StableHlo.unary main_while1b_v49 main_while1b_v50 (Host.exp : (⟨S512x50, .f32⟩ : BufTy).Contents (Elt F) → (⟨S512x50, .f32⟩ : BufTy).Contents (Elt F)),
    StableHlo.nullary main_while1b_cst_13 (constant S_ .f32 0x3F800000#32),
    StableHlo.unary main_while1b_cst_13 main_while1b_v51 (broadcastInDim S512x50 ![] bcast_S_S512x50 : (⟨S_, .f32⟩ : BufTy).Contents (Elt F) → (⟨S512x50, .f32⟩ : BufTy).Contents (Elt F)),
    StableHlo.binary main_while1b_v51 main_while1b_v50 main_while1b_v52 (addf : (⟨S512x50, .f32⟩ : BufTy).Contents (Elt F) → (⟨S512x50, .f32⟩ : BufTy).Contents (Elt F) → (⟨S512x50, .f32⟩ : BufTy).Contents (Elt F)),
    StableHlo.nullary main_while1b_cst_14 (constant S_ .f32 0x3F800000#32),
    StableHlo.unary main_while1b_cst_14 main_while1b_v53 (broadcastInDim S512x50 ![] bcast_S_S512x50 : (⟨S_, .f32⟩ : BufTy).Contents (Elt F) → (⟨S512x50, .f32⟩ : BufTy).Contents (Elt F)),
    StableHlo.binary main_while1b_v53 main_while1b_v52 main_while1b_v54 (Host.divf : (⟨S512x50, .f32⟩ : BufTy).Contents (Elt F) → (⟨S512x50, .f32⟩ : BufTy).Contents (Elt F) → (⟨S512x50, .f32⟩ : BufTy).Contents (Elt F)),
    StableHlo.unary main_while1b_v41 main_while1b_v55 (Host.tanh : (⟨S512x50, .f32⟩ : BufTy).Contents (Elt F) → (⟨S512x50, .f32⟩ : BufTy).Contents (Elt F)),
    StableHlo.unary main_while1b_v42 main_while1b_v56 (Host.negf : (⟨S512x50, .f32⟩ : BufTy).Contents (Elt F) → (⟨S512x50, .f32⟩ : BufTy).Contents (Elt F)),
    StableHlo.unary main_while1b_v56 main_while1b_v57 (Host.exp : (⟨S512x50, .f32⟩ : BufTy).Contents (Elt F) → (⟨S512x50, .f32⟩ : BufTy).Contents (Elt F)),
    StableHlo.nullary main_while1b_cst_15 (constant S_ .f32 0x3F800000#32),
    StableHlo.unary main_while1b_cst_15 main_while1b_v58 (broadcastInDim S512x50 ![] bcast_S_S512x50 : (⟨S_, .f32⟩ : BufTy).Contents (Elt F) → (⟨S512x50, .f32⟩ : BufTy).Contents (Elt F)),
    StableHlo.binary main_while1b_v58 main_while1b_v57 main_while1b_v59 (addf : (⟨S512x50, .f32⟩ : BufTy).Contents (Elt F) → (⟨S512x50, .f32⟩ : BufTy).Contents (Elt F) → (⟨S512x50, .f32⟩ : BufTy).Contents (Elt F)),
    StableHlo.nullary main_while1b_cst_16 (constant S_ .f32 0x3F800000#32),
    StableHlo.unary main_while1b_cst_16 main_while1b_v60 (broadcastInDim S512x50 ![] bcast_S_S512x50 : (⟨S_, .f32⟩ : BufTy).Contents (Elt F) → (⟨S512x50, .f32⟩ : BufTy).Contents (Elt F)),
    StableHlo.binary main_while1b_v60 main_while1b_v59 main_while1b_v61 (Host.divf : (⟨S512x50, .f32⟩ : BufTy).Contents (Elt F) → (⟨S512x50, .f32⟩ : BufTy).Contents (Elt F) → (⟨S512x50, .f32⟩ : BufTy).Contents (Elt F)),
    StableHlo.binary main_while1b_v54 main_v25_4 main_while1b_v62 (mulf : (⟨S512x50, .f32⟩ : BufTy).Contents (Elt F) → (⟨S512x50, .f32⟩ : BufTy).Contents (Elt F) → (⟨S512x50, .f32⟩ : BufTy).Contents (Elt F)),
    StableHlo.binary main_while1b_v48 main_while1b_v55 main_while1b_v63 (mulf : (⟨S512x50, .f32⟩ : BufTy).Contents (Elt F) → (⟨S512x50, .f32⟩ : BufTy).Contents (Elt F) → (⟨S512x50, .f32⟩ : BufTy).Contents (Elt F)),
    StableHlo.binary main_while1b_v62 main_while1b_v63 main_while1b_v64 (addf : (⟨S512x50, .f32⟩ : BufTy).Contents (Elt F) → (⟨S512x50, .f32⟩ : BufTy).Contents (Elt F) → (⟨S512x50, .f32⟩ : BufTy).Contents (Elt F)),
    StableHlo.unary main_while1b_v64 main_while1b_v65 (Host.tanh : (⟨S512x50, .f32⟩ : BufTy).Contents (Elt F) → (⟨S512x50, .f32⟩ : BufTy).Contents (Elt F)),
    StableHlo.binary main_while1b_v61 main_while1b_v65 main_while1b_v66 (mulf : (⟨S512x50, .f32⟩ : BufTy).Contents (Elt F) → (⟨S512x50, .f32⟩ : BufTy).Contents (Elt F) → (⟨S512x50, .f32⟩ : BufTy).Contents (Elt F)) ]

/-- Loop 1: the hidden state put into the result. -/
abbrev upd1 : List (HloOp τ sig (Elt F)) :=
  [ StableHlo.TRef.unary (.of main_while1b_v66 : StableHlo.TRef sig ⟨S512x50, .f32⟩) (.of main_while1b_call3_v0 : StableHlo.TRef sig ⟨S1x512x50, .f32⟩) (broadcastInDim S1x512x50 ![1, 2] bcast_S512x50_S1x512x50_1_2),
    StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.binaryIndexed (.of main_v25_5 : StableHlo.TRef sig ⟨S256x512x50, .f32⟩) (.of main_while1b_call3_v0 : StableHlo.TRef sig ⟨S1x512x50, .f32⟩) ![(.of main_v25_2 : StableHlo.TRef sig ⟨S_, .i32⟩), (.of main_while1b_call3_c : StableHlo.TRef sig ⟨S_, .i32⟩), (.of main_while1b_call3_c_0 : StableHlo.TRef sig ⟨S_, .i32⟩)] (.of main_while1b_v67 : StableHlo.TRef sig ⟨S256x512x50, .f32⟩) (fun x u i => Host.dynamicUpdateSlice x u (fun k => (i k (Shape.Idx.first h_S_)).toInt) updateFits_S256x512x50_S1x512x50) ]

/-- Loop 1: the counter's step, and the carried values written back. -/
abbrev fin1 : List (HloOp τ sig (Elt F)) :=
  [ StableHlo.nullary main_while1b_c_17 (constantI S_ 32 1#32),
    StableHlo.binary main_v25_2 main_while1b_c_17 main_while1b_v68 (addi : (⟨S_, .i32⟩ : BufTy).Contents (Elt F) → (⟨S_, .i32⟩ : BufTy).Contents (Elt F) → (⟨S_, .i32⟩ : BufTy).Contents (Elt F)),
    StableHlo.unary main_while1b_v68 main_v25_2 id,
    StableHlo.unary main_while1b_v66 main_v25_3 id,
    StableHlo.unary main_while1b_v64 main_v25_4 id,
    StableHlo.unary main_while1b_v67 main_v25_5 id ]

/-- Loop 1: the counter compared with the number of steps. -/
abbrev cond1 : List (HloOp τ sig (Elt F)) :=
  [ StableHlo.nullary main_while1c_c_11 (constantI S_ 32 256#32),
    StableHlo.binary main_v25_2 main_while1c_c_11 main_while1c_v35 (cmpi .slt) ]

/-- The program is its three stretches around the two loops. -/
theorem main_chain (c : Dev nD) : main (F := F) c = (Pipeline.chain
  [StableHlo.seq pre, HostLoop.enter 0, StableHlo.seq mid, HostLoop.enter 1, StableHlo.seq post] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- Loop 0's body is its four stretches. -/
theorem body0_chain : main_while0_body (F := F) = (Pipeline.chain
  [StableHlo.seq idx0, StableHlo.seq cell0, StableHlo.seq upd0, StableHlo.seq fin0] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- Loop 1's body is its four stretches. -/
theorem body1_chain : main_while1_body (F := F) = (Pipeline.chain
  [StableHlo.seq idx1, StableHlo.seq cell1, StableHlo.seq upd1, StableHlo.seq fin1] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

end Cert.ReferenceIdeal.Ref

end
-- ==== Proof.RI.Trip.lean ====
/- What one pass of each of the reference's loops does to the carried values. -/
module

public import proofs.«01_k».proof.Proof.RI.Ops

@[expose] public section

set_option maxRecDepth 4000

noncomputable section

namespace Cert.ReferenceIdeal.Ref

open Idealize.ShloMosaic Idealize.ShloMosaic.TcCoe Idealize.ShloMosaic.StableHlo
open Idealize.SL Idealize.SL.Sem Cert.ReferenceIdeal.Facts₀ Cert.ReferenceIdeal.Facts

variable {F : FTy → Type} [FloatOps F]

/-- The sigmoid as the reference spells it: one over one plus the exponential of the negated argument. -/
def sig50 (x : (⟨S512x50, .f32⟩ : BufTy).Contents (Elt F)) : (⟨S512x50, .f32⟩ : BufTy).Contents (Elt F) :=
  Host.divf (broadcastInDim S512x50 ![] bcast_S_S512x50 (constant S_ .f32 0x3F800000#32))
    (addf (broadcastInDim S512x50 ![] bcast_S_S512x50 (constant S_ .f32 0x3F800000#32)) (Host.exp (Host.negf x)))

/-- The four gates of one step, before their activations. -/
def gates (xt : (⟨S512x200, .f32⟩ : BufTy).Contents (Elt F)) (wh : (⟨S200x50, .f32⟩ : BufTy).Contents (Elt F))
    (h : (⟨S512x50, .f32⟩ : BufTy).Contents (Elt F)) : (⟨S512x200, .f32⟩ : BufTy).Contents (Elt F) :=
  addf xt (Host.dotGeneral dot_S512x50_S50x200_S512x200_1_0_0_1_n_n none h (transpose S50x200 [1, 0] wh transposes_S200x50_S50x200_1_0))

/-- The next cell state of the gates and the cell state. -/
def cNew (g : (⟨S512x200, .f32⟩ : BufTy).Contents (Elt F)) (c : (⟨S512x50, .f32⟩ : BufTy).Contents (Elt F)) : (⟨S512x50, .f32⟩ : BufTy).Contents (Elt F) :=
  addf (mulf (sig50 (extractStridedSlice S512x50 ![0, 50] g slices_S512x200_S512x50_0_50)) c)
    (mulf (sig50 (extractStridedSlice S512x50 ![0, 0] g slices_S512x200_S512x50_0_0))
      (Host.tanh (extractStridedSlice S512x50 ![0, 100] g slices_S512x200_S512x50_0_100)))

/-- The next hidden state of the gates and the cell state. -/
def hNew (g : (⟨S512x200, .f32⟩ : BufTy).Contents (Elt F)) (c : (⟨S512x50, .f32⟩ : BufTy).Contents (Elt F)) : (⟨S512x50, .f32⟩ : BufTy).Contents (Elt F) :=
  mulf (sig50 (extractStridedSlice S512x50 ![0, 150] g slices_S512x200_S512x50_0_150)) (Host.tanh (cNew g c))

/-- The counter's row of the inputs' products. -/
def xAt (xs : (⟨S256x512x200, .f32⟩ : BufTy).Contents (Elt F)) (k : (⟨S_, .i32⟩ : BufTy).Contents (Elt F)) : (⟨S512x200, .f32⟩ : BufTy).Contents (Elt F) :=
  shapeCast S512x200 (Host.dynamicSlice S1x512x200 xs (fun i => ((![k, constantI S_ 32 0#32, constantI S_ 32 0#32] : Fin 3 → (⟨S_, .i32⟩ : BufTy).Contents (Elt F)) i (Shape.Idx.first h_S_)).toInt)
    sliceFits_S256x512x200_S1x512x200) shapeCasts_S1x512x200_S512x200

/-- The hidden state written at the counter's row of the result. -/
def ysPut (ys : (⟨S256x512x50, .f32⟩ : BufTy).Contents (Elt F)) (k : (⟨S_, .i32⟩ : BufTy).Contents (Elt F))
    (h : (⟨S512x50, .f32⟩ : BufTy).Contents (Elt F)) : (⟨S256x512x50, .f32⟩ : BufTy).Contents (Elt F) :=
  Host.dynamicUpdateSlice ys (broadcastInDim S1x512x50 ![1, 2] bcast_S512x50_S1x512x50_1_2 h)
    (fun i => ((![k, constantI S_ 32 0#32, constantI S_ 32 0#32] : Fin 3 → (⟨S_, .i32⟩ : BufTy).Contents (Elt F)) i (Shape.Idx.first h_S_)).toInt) updateFits_S256x512x50_S1x512x50

/-- Loop 0: one pass, the condition's operations first. -/
abbrev pass0 : List (HloOp τ sig (Elt F)) := cond0 ++ (idx0 ++ (cell0 ++ (upd0 ++ fin0)))

theorem idx0_xt (V : Valuation τ sig (Elt F)) : after idx0 V (Proc.devRef .tc main_while0b_v35) = xAt (V (Proc.devRef .tc main_v12_0)) (V (Proc.devRef .tc main_v12_2)) := by
  after_reads_simp [unaryIndexed_result_read, indexContents_tref_cons, indexContents_cons, indexContents_tref_empty, TRef.ofBuf_toBuf]
  simp only [TRef.ofBuf, TRef.toBuf, cast_eq]
  rfl
theorem cell0_c (V : Valuation τ sig (Elt F)) : after cell0 V (Proc.devRef .tc main_while0b_v64)
    = cNew (gates (V (Proc.devRef .tc main_while0b_v35)) (V (Proc.devRef .tc main_v12_1)) (V (Proc.devRef .tc main_v12_3))) (V (Proc.devRef .tc main_v12_4)) := by
  after_reads_simp; rfl
theorem cell0_h (V : Valuation τ sig (Elt F)) : after cell0 V (Proc.devRef .tc main_while0b_v66)
    = hNew (gates (V (Proc.devRef .tc main_while0b_v35)) (V (Proc.devRef .tc main_v12_1)) (V (Proc.devRef .tc main_v12_3))) (V (Proc.devRef .tc main_v12_4)) := by
  after_reads_simp; rfl
theorem upd0_ys (V : Valuation τ sig (Elt F)) : after upd0 V (Proc.devRef .tc main_while0b_v67)
    = ysPut (V (Proc.devRef .tc main_v12_5)) (V (Proc.devRef .tc main_v12_2)) (V (Proc.devRef .tc main_while0b_v66)) := by
  after_reads_simp [binaryIndexed_result_read, indexContents_tref_cons, indexContents_cons, indexContents_tref_empty, TRef.ofBuf_toBuf]
  simp only [TRef.ofBuf, TRef.toBuf, cast_eq]
  rfl

/-- Loop 0: the references a pass leaves alone up to the cell. -/
theorem keep0 (V : Valuation τ sig (Elt F)) :
    after idx0 (after cond0 V) (Proc.devRef .tc main_v12_0) = V (Proc.devRef .tc main_v12_0) ∧ after idx0 (after cond0 V) (Proc.devRef .tc main_v12_1) = V (Proc.devRef .tc main_v12_1)
    ∧ after idx0 (after cond0 V) (Proc.devRef .tc main_v12_2) = V (Proc.devRef .tc main_v12_2) ∧ after idx0 (after cond0 V) (Proc.devRef .tc main_v12_3) = V (Proc.devRef .tc main_v12_3)
    ∧ after idx0 (after cond0 V) (Proc.devRef .tc main_v12_4) = V (Proc.devRef .tc main_v12_4) ∧ after idx0 (after cond0 V) (Proc.devRef .tc main_v12_5) = V (Proc.devRef .tc main_v12_5)
    ∧ after cond0 V (Proc.devRef .tc main_v12_0) = V (Proc.devRef .tc main_v12_0) ∧ after cond0 V (Proc.devRef .tc main_v12_2) = V (Proc.devRef .tc main_v12_2) := by
  refine ⟨?_, ?_, ?_, ?_, ?_, ?_, ?_, ?_⟩ <;> after_reads_simp
theorem cellkeep0 (V : Valuation τ sig (Elt F)) :
    after cell0 V (Proc.devRef .tc main_v12_5) = V (Proc.devRef .tc main_v12_5) ∧ after cell0 V (Proc.devRef .tc main_v12_2) = V (Proc.devRef .tc main_v12_2) := by
  refine ⟨?_, ?_⟩ <;> after_reads_simp
theorem tail0 (V : Valuation τ sig (Elt F)) :
    after fin0 (after upd0 V) (Proc.devRef .tc main_v12_3) = V (Proc.devRef .tc main_while0b_v66) ∧ after fin0 (after upd0 V) (Proc.devRef .tc main_v12_4) = V (Proc.devRef .tc main_while0b_v64)
    ∧ after fin0 (after upd0 V) (Proc.devRef .tc main_v12_5) = after upd0 V (Proc.devRef .tc main_while0b_v67) := by
  refine ⟨?_, ?_, ?_⟩ <;> after_reads_simp <;> rfl

/-- Loop 0: a pass keeps the inputs' products. -/
theorem pass0_xs (V : Valuation τ sig (Elt F)) : after pass0 V (Proc.devRef .tc main_v12_0) = V (Proc.devRef .tc main_v12_0) := by
  after_reads_simp
/-- Loop 0: a pass keeps the recurrent weights. -/
theorem pass0_wh (V : Valuation τ sig (Elt F)) : after pass0 V (Proc.devRef .tc main_v12_1) = V (Proc.devRef .tc main_v12_1) := by
  after_reads_simp
/-- Loop 0: a pass adds one to the counter. -/
theorem pass0_ctr (V : Valuation τ sig (Elt F)) : after pass0 V (Proc.devRef .tc main_v12_2)
    = addi (s := S_) (w := 32) (V (Proc.devRef .tc main_v12_2)) (constantI S_ 32 1#32) := by
  after_reads_simp; try rfl
/-- Loop 0: the next cell state. -/
theorem pass0_c (V : Valuation τ sig (Elt F)) : after pass0 V (Proc.devRef .tc main_v12_4) = cNew (gates (xAt (V (Proc.devRef .tc main_v12_0)) (V (Proc.devRef .tc main_v12_2))) (V (Proc.devRef .tc main_v12_1)) (V (Proc.devRef .tc main_v12_3))) (V (Proc.devRef .tc main_v12_4)) := by
  obtain ⟨h0, h1, h2, h3, h4, h5, h6, h7⟩ := keep0 V
  simp only [pass0, after_append]
  rw [(tail0 _).2.1, cell0_c, idx0_xt, h1, h3, h4, h6, h7]
/-- Loop 0: the next hidden state. -/
theorem pass0_h (V : Valuation τ sig (Elt F)) : after pass0 V (Proc.devRef .tc main_v12_3) = hNew (gates (xAt (V (Proc.devRef .tc main_v12_0)) (V (Proc.devRef .tc main_v12_2))) (V (Proc.devRef .tc main_v12_1)) (V (Proc.devRef .tc main_v12_3))) (V (Proc.devRef .tc main_v12_4)) := by
  obtain ⟨h0, h1, h2, h3, h4, h5, h6, h7⟩ := keep0 V
  simp only [pass0, after_append]
  rw [(tail0 _).1, cell0_h, idx0_xt, h1, h3, h4, h6, h7]
/-- Loop 0: the hidden state is written at the counter's row of the result. -/
theorem pass0_ys (V : Valuation τ sig (Elt F)) : after pass0 V (Proc.devRef .tc main_v12_5)
    = ysPut (V (Proc.devRef .tc main_v12_5)) (V (Proc.devRef .tc main_v12_2)) (hNew (gates (xAt (V (Proc.devRef .tc main_v12_0)) (V (Proc.devRef .tc main_v12_2))) (V (Proc.devRef .tc main_v12_1)) (V (Proc.devRef .tc main_v12_3))) (V (Proc.devRef .tc main_v12_4))) := by
  obtain ⟨h0, h1, h2, h3, h4, h5, h6, h7⟩ := keep0 V
  simp only [pass0, after_append]
  rw [(tail0 _).2.2, upd0_ys, (cellkeep0 _).1, (cellkeep0 _).2, cell0_h, idx0_xt, h1, h2, h3, h4, h5, h6, h7]

/-- Loop 1: one pass, the condition's operations first. -/
abbrev pass1 : List (HloOp τ sig (Elt F)) := cond1 ++ (idx1 ++ (cell1 ++ (upd1 ++ fin1)))

theorem idx1_xt (V : Valuation τ sig (Elt F)) : after idx1 V (Proc.devRef .tc main_while1b_v35) = xAt (V (Proc.devRef .tc main_v25_0)) (V (Proc.devRef .tc main_v25_2)) := by
  after_reads_simp [unaryIndexed_result_read, indexContents_tref_cons, indexContents_cons, indexContents_tref_empty, TRef.ofBuf_toBuf]
  simp only [TRef.ofBuf, TRef.toBuf, cast_eq]
  rfl
theorem cell1_c (V : Valuation τ sig (Elt F)) : after cell1 V (Proc.devRef .tc main_while1b_v64)
    = cNew (gates (V (Proc.devRef .tc main_while1b_v35)) (V (Proc.devRef .tc main_v25_1)) (V (Proc.devRef .tc main_v25_3))) (V (Proc.devRef .tc main_v25_4)) := by
  after_reads_simp; rfl
theorem cell1_h (V : Valuation τ sig (Elt F)) : after cell1 V (Proc.devRef .tc main_while1b_v66)
    = hNew (gates (V (Proc.devRef .tc main_while1b_v35)) (V (Proc.devRef .tc main_v25_1)) (V (Proc.devRef .tc main_v25_3))) (V (Proc.devRef .tc main_v25_4)) := by
  after_reads_simp; rfl
theorem upd1_ys (V : Valuation τ sig (Elt F)) : after upd1 V (Proc.devRef .tc main_while1b_v67)
    = ysPut (V (Proc.devRef .tc main_v25_5)) (V (Proc.devRef .tc main_v25_2)) (V (Proc.devRef .tc main_while1b_v66)) := by
  after_reads_simp [binaryIndexed_result_read, indexContents_tref_cons, indexContents_cons, indexContents_tref_empty, TRef.ofBuf_toBuf]
  simp only [TRef.ofBuf, TRef.toBuf, cast_eq]
  rfl

/-- Loop 1: the references a pass leaves alone up to the cell. -/
theorem keep1 (V : Valuation τ sig (Elt F)) :
    after idx1 (after cond1 V) (Proc.devRef .tc main_v25_0) = V (Proc.devRef .tc main_v25_0) ∧ after idx1 (after cond1 V) (Proc.devRef .tc main_v25_1) = V (Proc.devRef .tc main_v25_1)
    ∧ after idx1 (after cond1 V) (Proc.devRef .tc main_v25_2) = V (Proc.devRef .tc main_v25_2) ∧ after idx1 (after cond1 V) (Proc.devRef .tc main_v25_3) = V (Proc.devRef .tc main_v25_3)
    ∧ after idx1 (after cond1 V) (Proc.devRef .tc main_v25_4) = V (Proc.devRef .tc main_v25_4) ∧ after idx1 (after cond1 V) (Proc.devRef .tc main_v25_5) = V (Proc.devRef .tc main_v25_5)
    ∧ after cond1 V (Proc.devRef .tc main_v25_0) = V (Proc.devRef .tc main_v25_0) ∧ after cond1 V (Proc.devRef .tc main_v25_2) = V (Proc.devRef .tc main_v25_2) := by
  refine ⟨?_, ?_, ?_, ?_, ?_, ?_, ?_, ?_⟩ <;> after_reads_simp
theorem cellkeep1 (V : Valuation τ sig (Elt F)) :
    after cell1 V (Proc.devRef .tc main_v25_5) = V (Proc.devRef .tc main_v25_5) ∧ after cell1 V (Proc.devRef .tc main_v25_2) = V (Proc.devRef .tc main_v25_2) := by
  refine ⟨?_, ?_⟩ <;> after_reads_simp
theorem tail1 (V : Valuation τ sig (Elt F)) :
    after fin1 (after upd1 V) (Proc.devRef .tc main_v25_3) = V (Proc.devRef .tc main_while1b_v66) ∧ after fin1 (after upd1 V) (Proc.devRef .tc main_v25_4) = V (Proc.devRef .tc main_while1b_v64)
    ∧ after fin1 (after upd1 V) (Proc.devRef .tc main_v25_5) = after upd1 V (Proc.devRef .tc main_while1b_v67) := by
  refine ⟨?_, ?_, ?_⟩ <;> after_reads_simp <;> rfl

/-- Loop 1: a pass keeps the inputs' products. -/
theorem pass1_xs (V : Valuation τ sig (Elt F)) : after pass1 V (Proc.devRef .tc main_v25_0) = V (Proc.devRef .tc main_v25_0) := by
  after_reads_simp
/-- Loop 1: a pass keeps the recurrent weights. -/
theorem pass1_wh (V : Valuation τ sig (Elt F)) : after pass1 V (Proc.devRef .tc main_v25_1) = V (Proc.devRef .tc main_v25_1) := by
  after_reads_simp
/-- Loop 1: a pass adds one to the counter. -/
theorem pass1_ctr (V : Valuation τ sig (Elt F)) : after pass1 V (Proc.devRef .tc main_v25_2)
    = addi (s := S_) (w := 32) (V (Proc.devRef .tc main_v25_2)) (constantI S_ 32 1#32) := by
  after_reads_simp; try rfl
/-- Loop 1: the next cell state. -/
theorem pass1_c (V : Valuation τ sig (Elt F)) : after pass1 V (Proc.devRef .tc main_v25_4) = cNew (gates (xAt (V (Proc.devRef .tc main_v25_0)) (V (Proc.devRef .tc main_v25_2))) (V (Proc.devRef .tc main_v25_1)) (V (Proc.devRef .tc main_v25_3))) (V (Proc.devRef .tc main_v25_4)) := by
  obtain ⟨h0, h1, h2, h3, h4, h5, h6, h7⟩ := keep1 V
  simp only [pass1, after_append]
  rw [(tail1 _).2.1, cell1_c, idx1_xt, h1, h3, h4, h6, h7]
/-- Loop 1: the next hidden state. -/
theorem pass1_h (V : Valuation τ sig (Elt F)) : after pass1 V (Proc.devRef .tc main_v25_3) = hNew (gates (xAt (V (Proc.devRef .tc main_v25_0)) (V (Proc.devRef .tc main_v25_2))) (V (Proc.devRef .tc main_v25_1)) (V (Proc.devRef .tc main_v25_3))) (V (Proc.devRef .tc main_v25_4)) := by
  obtain ⟨h0, h1, h2, h3, h4, h5, h6, h7⟩ := keep1 V
  simp only [pass1, after_append]
  rw [(tail1 _).1, cell1_h, idx1_xt, h1, h3, h4, h6, h7]
/-- Loop 1: the hidden state is written at the counter's row of the result. -/
theorem pass1_ys (V : Valuation τ sig (Elt F)) : after pass1 V (Proc.devRef .tc main_v25_5)
    = ysPut (V (Proc.devRef .tc main_v25_5)) (V (Proc.devRef .tc main_v25_2)) (hNew (gates (xAt (V (Proc.devRef .tc main_v25_0)) (V (Proc.devRef .tc main_v25_2))) (V (Proc.devRef .tc main_v25_1)) (V (Proc.devRef .tc main_v25_3))) (V (Proc.devRef .tc main_v25_4))) := by
  obtain ⟨h0, h1, h2, h3, h4, h5, h6, h7⟩ := keep1 V
  simp only [pass1, after_append]
  rw [(tail1 _).2.2, upd1_ys, (cellkeep1 _).1, (cellkeep1 _).2, cell1_h, idx1_xt, h1, h2, h3, h4, h5, h6, h7]

end Cert.ReferenceIdeal.Ref

end
-- ==== Proof.RI.Run.lean ====
/- The reference's run: its stretches, its two counted loops, and every buffer at the end. -/
module

public import proofs.«01_k».proof.Proof.RI.Trip

@[expose] public section

set_option maxRecDepth 4000

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

/-- Every operation of `pre` touches TensorCore references only. -/
theorem pre_sub : (pre : List (HloOp τ sig (Elt F))).Forall fun op => op.bufs ⊆ StableHlo.tcRefs τ sig :=
  ⟨reshape_bufs_sub .., binary_bufs_sub .., unary_bufs_sub .., unary_bufs_sub .., binary_bufs_sub .., unary_bufs_sub .., unary_bufs_sub .., binary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩
/-- No operation of `pre` allocates a buffer. -/
theorem pre_fresh : (pre : List (HloOp τ sig (Elt F))).Forall fun op => op.fresh = ∅ := StableHlo.forall_fresh_of_map rfl
/-- Every operation of `mid` touches TensorCore references only. -/
theorem mid_sub : (mid : List (HloOp τ sig (Elt F))).Forall fun op => op.bufs ⊆ StableHlo.tcRefs τ sig :=
  ⟨unary_bufs_sub .., binary_bufs_sub .., unary_bufs_sub .., unary_bufs_sub .., binary_bufs_sub .., unary_bufs_sub .., unary_bufs_sub .., binary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩
/-- No operation of `mid` allocates a buffer. -/
theorem mid_fresh : (mid : List (HloOp τ sig (Elt F))).Forall fun op => op.fresh = ∅ := StableHlo.forall_fresh_of_map rfl
/-- Every operation of `post` touches TensorCore references only. -/
theorem post_sub : (post : List (HloOp τ sig (Elt F))).Forall fun op => op.bufs ⊆ StableHlo.tcRefs τ sig :=
  ⟨unary_bufs_sub .., unary_bufs_sub .., reshape_bufs_sub .., unary_bufs_sub .., binary_bufs_sub .., unary_bufs_sub .., unary_bufs_sub .., binary_bufs_sub .., reshape_bufs_sub ..⟩
/-- No operation of `post` allocates a buffer. -/
theorem post_fresh : (post : List (HloOp τ sig (Elt F))).Forall fun op => op.fresh = ∅ := StableHlo.forall_fresh_of_map rfl
/-- Every operation of `idx0` touches TensorCore references only. -/
theorem idx0_sub : (idx0 : List (HloOp τ sig (Elt F))).Forall fun op => op.bufs ⊆ StableHlo.tcRefs τ sig :=
  ⟨nullary_bufs_sub .., nullary_bufs_sub .., unaryIndexed_bufs_sub .., reshape_bufs_sub ..⟩
/-- No operation of `idx0` allocates a buffer. -/
theorem idx0_fresh : (idx0 : List (HloOp τ sig (Elt F))).Forall fun op => op.fresh = ∅ := StableHlo.forall_fresh_of_map rfl
/-- Every operation of `cell0` touches TensorCore references only. -/
theorem cell0_sub : (cell0 : List (HloOp τ sig (Elt F))).Forall fun op => op.bufs ⊆ StableHlo.tcRefs τ sig :=
  ⟨unary_bufs_sub .., binary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub ..⟩
/-- No operation of `cell0` allocates a buffer. -/
theorem cell0_fresh : (cell0 : List (HloOp τ sig (Elt F))).Forall fun op => op.fresh = ∅ := StableHlo.forall_fresh_of_map rfl
/-- Every operation of `upd0` touches TensorCore references only. -/
theorem upd0_sub : (upd0 : List (HloOp τ sig (Elt F))).Forall fun op => op.bufs ⊆ StableHlo.tcRefs τ sig :=
  ⟨unary_bufs_sub .., nullary_bufs_sub .., nullary_bufs_sub .., binaryIndexed_bufs_sub ..⟩
/-- No operation of `upd0` allocates a buffer. -/
theorem upd0_fresh : (upd0 : List (HloOp τ sig (Elt F))).Forall fun op => op.fresh = ∅ := StableHlo.forall_fresh_of_map rfl
/-- Every operation of `fin0` touches TensorCore references only. -/
theorem fin0_sub : (fin0 : List (HloOp τ sig (Elt F))).Forall fun op => op.bufs ⊆ StableHlo.tcRefs τ sig :=
  ⟨nullary_bufs_sub .., binary_bufs_sub .., unary_bufs_sub .., unary_bufs_sub .., unary_bufs_sub .., unary_bufs_sub ..⟩
/-- No operation of `fin0` allocates a buffer. -/
theorem fin0_fresh : (fin0 : List (HloOp τ sig (Elt F))).Forall fun op => op.fresh = ∅ := StableHlo.forall_fresh_of_map rfl
/-- Every operation of `idx1` touches TensorCore references only. -/
theorem idx1_sub : (idx1 : List (HloOp τ sig (Elt F))).Forall fun op => op.bufs ⊆ StableHlo.tcRefs τ sig :=
  ⟨nullary_bufs_sub .., nullary_bufs_sub .., unaryIndexed_bufs_sub .., reshape_bufs_sub ..⟩
/-- No operation of `idx1` allocates a buffer. -/
theorem idx1_fresh : (idx1 : List (HloOp τ sig (Elt F))).Forall fun op => op.fresh = ∅ := StableHlo.forall_fresh_of_map rfl
/-- Every operation of `cell1` touches TensorCore references only. -/
theorem cell1_sub : (cell1 : List (HloOp τ sig (Elt F))).Forall fun op => op.bufs ⊆ StableHlo.tcRefs τ sig :=
  ⟨unary_bufs_sub .., binary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub ..⟩
/-- No operation of `cell1` allocates a buffer. -/
theorem cell1_fresh : (cell1 : List (HloOp τ sig (Elt F))).Forall fun op => op.fresh = ∅ := StableHlo.forall_fresh_of_map rfl
/-- Every operation of `upd1` touches TensorCore references only. -/
theorem upd1_sub : (upd1 : List (HloOp τ sig (Elt F))).Forall fun op => op.bufs ⊆ StableHlo.tcRefs τ sig :=
  ⟨unary_bufs_sub .., nullary_bufs_sub .., nullary_bufs_sub .., binaryIndexed_bufs_sub ..⟩
/-- No operation of `upd1` allocates a buffer. -/
theorem upd1_fresh : (upd1 : List (HloOp τ sig (Elt F))).Forall fun op => op.fresh = ∅ := StableHlo.forall_fresh_of_map rfl
/-- Every operation of `fin1` touches TensorCore references only. -/
theorem fin1_sub : (fin1 : List (HloOp τ sig (Elt F))).Forall fun op => op.bufs ⊆ StableHlo.tcRefs τ sig :=
  ⟨nullary_bufs_sub .., binary_bufs_sub .., unary_bufs_sub .., unary_bufs_sub .., unary_bufs_sub .., unary_bufs_sub ..⟩
/-- No operation of `fin1` allocates a buffer. -/
theorem fin1_fresh : (fin1 : List (HloOp τ sig (Elt F))).Forall fun op => op.fresh = ∅ := StableHlo.forall_fresh_of_map rfl

/-- Loop 0's body: its four stretches. -/
abbrev body0 : List (List (HloOp τ sig (Elt F))) := [idx0, cell0, upd0, fin0]
/-- Loop 1's body: its four stretches. -/
abbrev body1 : List (List (HloOp τ sig (Elt F))) := [idx1, cell1, upd1, fin1]

theorem plain_pre : Plain ([pre (F := F)]) := .cons pre_sub (hf := List.forall_iff_forall_mem.mp pre_fresh) .nil
theorem plain_mid : Plain ([mid (F := F)]) := .cons mid_sub (hf := List.forall_iff_forall_mem.mp mid_fresh) .nil
theorem plain_post : Plain ([post (F := F)]) := .cons post_sub (hf := List.forall_iff_forall_mem.mp post_fresh) .nil
theorem plain_body0 : Plain (body0 (F := F)) := .cons idx0_sub (hf := List.forall_iff_forall_mem.mp idx0_fresh) (.cons cell0_sub (hf := List.forall_iff_forall_mem.mp cell0_fresh) (.cons upd0_sub (hf := List.forall_iff_forall_mem.mp upd0_fresh) (.cons fin0_sub (hf := List.forall_iff_forall_mem.mp fin0_fresh) .nil)))
theorem plain_body1 : Plain (body1 (F := F)) := .cons idx1_sub (hf := List.forall_iff_forall_mem.mp idx1_fresh) (.cons cell1_sub (hf := List.forall_iff_forall_mem.mp cell1_fresh) (.cons upd1_sub (hf := List.forall_iff_forall_mem.mp upd1_fresh) (.cons fin1_sub (hf := List.forall_iff_forall_mem.mp fin1_fresh) .nil)))

local notation "𝕄" => MT nD τ sig Unit (Elt F) ℕ (Option PUnit) ℕ

/-- No pipeline: nothing is admitted. -/
abbrev adm : (p : Fin 0) → (pcfgs (F := F) p).Adm := fun p => p.elim0
/-- No pipeline: no ticket. -/
abbrev tk : Fin 0 → Ticket (Ix := Unit) (Name := ℕ) (U := Option PUnit) (Lvl := ℕ) (nD := nD) (τ := τ) (pcfgs (F := F)) adm := fun j => j.elim0
/-- No semaphore carries a level. -/
abbrev Lv : GSem nD τ sig → Finset Unit := fun _ => ∅
abbrev lv : GSem nD τ sig → Unit → ℕ := fun _ _ => 0
theorem cells_injective : Function.Injective (Pipeline.cellOf (nD := nD) (τ := τ) (Pipeline.pin (pcfgs (F := F)) adm)) :=
  fun k => k.1.elim0
/-- Carried beside the buffers: the core owes nothing. -/
abbrev Rw (c : Dev nD) : sProp 𝕄 := iprop(∃ W, owes (c : Thread nD τ) (0 : CellTallies nD τ sig Unit) W)

variable (m : (ℓ : Loc nD τ sig) → Buf (Elt F) ℓ) (ρ : Dev nD → PrngReg)

/-- Every buffer where loop 0 is entered. -/
abbrev E0 (c : Dev nD) : Valuation τ sig (Elt F) := after pre (launchContents m c)

theorem E0_ctr (c : Dev nD) : E0 m c (Proc.devRef .tc main_v12_2) = constantI S_ 32 0#32 := by
  after_reads_simp; try rfl

/-- Every buffer's contents before the `k`-th run of loop 0's condition, counted from 0. -/
abbrev K0 (k : ℕ) (c : Dev nD) : Valuation τ sig (Elt F) := atTrip cond0 body0 (E0 m) k c

/-- A pass of loop 0: the condition's operations and the body's, in order. -/
theorem K0_succ (k : ℕ) (c : Dev nD) : K0 m (k + 1) c = after pass0 (K0 m k c) := by
  rw [show K0 m (k + 1) c = afterL body0 (after cond0 (K0 m k c)) from rfl]
  simp only [afterL_cons, afterL_nil, after_append]

/-- Loop 0's counter holds the number of passes done. -/
theorem K0_ctr (c : Dev nD) : (k : ℕ) → K0 m k c (Proc.devRef .tc main_v12_2) = fun _ => Scf.iv 0#32 1#32 k
  | 0 => by rw [show K0 m 0 c = E0 m c from rfl, E0_ctr, Scf.iv_zero]; rfl
  | k + 1 => by
    rw [K0_succ, pass0_ctr, K0_ctr c k, Scf.iv_succ]
    rfl

-- a rule stated for any thread unifies at the TensorCore thread only when plain definitions may unfold in a metavariable's type
set_option backward.isDefEq.respectTransparency.types false in
/-- Loop 0's condition: it holds exactly while fewer than 256 passes are done, and runs its two operations. -/
theorem cond0_spec : LoopCond (pcfgs (F := F)) defs₀ Variants.none loops Rw (main_while0_cond (F := F)) cond0 body0 (E0 m) 256 := by
  intro k hk c bd
  have hctr := K0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K0 m k c) main_v12_2 HostLoop.idx0) (HloOp.result _ (K0 m k c) main_while0c_c_11 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]
  · rw [after_cons, after_cons, after_nil]; iexact Hh
  iexact HR

/-- Every buffer where loop 1 is entered. -/
abbrev E1 (c : Dev nD) : Valuation τ sig (Elt F) := after mid (after cond0 (K0 m 256 c))

theorem mid_ctr (V : Valuation τ sig (Elt F)) : after mid V (Proc.devRef .tc main_v25_2) = constantI S_ 32 0#32 := by
  after_reads_simp; try rfl
theorem E1_ctr (c : Dev nD) : E1 m c (Proc.devRef .tc main_v25_2) = constantI S_ 32 0#32 := mid_ctr _

/-- Every buffer's contents before the `k`-th run of loop 1's condition, counted from 0. -/
abbrev K1 (k : ℕ) (c : Dev nD) : Valuation τ sig (Elt F) := atTrip cond1 body1 (E1 m) k c

/-- A pass of loop 1: the condition's operations and the body's, in order. -/
theorem K1_succ (k : ℕ) (c : Dev nD) : K1 m (k + 1) c = after pass1 (K1 m k c) := by
  rw [show K1 m (k + 1) c = afterL body1 (after cond1 (K1 m k c)) from rfl]
  simp only [afterL_cons, afterL_nil, after_append]

/-- Loop 1's counter holds the number of passes done. -/
theorem K1_ctr (c : Dev nD) : (k : ℕ) → K1 m k c (Proc.devRef .tc main_v25_2) = fun _ => Scf.iv 0#32 1#32 k
  | 0 => by rw [show K1 m 0 c = E1 m c from rfl, E1_ctr, Scf.iv_zero]; rfl
  | k + 1 => by
    rw [K1_succ, pass1_ctr, K1_ctr c k, Scf.iv_succ]
    rfl

-- a rule stated for any thread unifies at the TensorCore thread only when plain definitions may unfold in a metavariable's type
set_option backward.isDefEq.respectTransparency.types false in
/-- Loop 1's condition: it holds exactly while fewer than 256 passes are done, and runs its two operations. -/
theorem cond1_spec : LoopCond (pcfgs (F := F)) defs₀ Variants.none loops Rw (main_while1_cond (F := F)) cond1 body1 (E1 m) 256 := by
  intro k hk c bd
  have hctr := K1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K1 m k c) main_v25_2 HostLoop.idx0) (HloOp.result _ (K1 m k c) main_while1c_c_11 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]
  · rw [after_cons, after_cons, after_nil]; iexact Hh
  iexact HR

/-- Every buffer at the end. -/
abbrev final (c : Dev nD) : Valuation τ sig (Elt F) := after post (after cond1 (K1 m 256 c))

/-- @main's segments: the stretches around the two loops. -/
def segs : List (CSeg (pcfgs (F := F)) adm defs₀ Variants.none Lv lv loops tk) :=
  segsOf _ _ _ _ _ _ _ _ Rw [pre] plain_pre (launchContents m)
    ++ loopSeg _ _ _ _ _ _ _ _ 0 main_while0_cond main_while0_body rfl cond0 body0 plain_body0 body0_chain 256 (E0 m) Rw (cond0_spec m)
      :: (segsOf _ _ _ _ _ _ _ _ Rw [mid] plain_mid (fun c => after cond0 (K0 m 256 c))
        ++ loopSeg _ _ _ _ _ _ _ _ 1 main_while1_cond main_while1_body rfl cond1 body1 plain_body1 body1_chain 256 (E1 m) Rw (cond1_spec m)
          :: segsOf _ _ _ _ _ _ _ _ Rw [post] plain_post (fun c => after cond1 (K1 m 256 c)))

theorem segs_prog : (segs m).map CSeg.prog = [StableHlo.seq (pre (F := F)), HostLoop.enter 0, StableHlo.seq mid, HostLoop.enter 1, StableHlo.seq post] := by
  unfold segs
  rw [List.map_append, List.map_cons, List.map_append, List.map_cons, segsOf_prog, segsOf_prog, segsOf_prog]
  rfl

theorem segs_run : CSeg.runL (segs m) = Pipeline.chain [StableHlo.seq (pre (F := F)), HostLoop.enter 0, StableHlo.seq mid, HostLoop.enter 1, StableHlo.seq post] := by
  unfold CSeg.runL
  rw [segs_prog]

theorem segs_chains : CSeg.Chains (fun c => iprop(held (c : Thread nD τ) (ucRefs τ sig) (launchContents m c) ∗ Rw c)) (segs m)
    (fun c => iprop(iprop(held (c : Thread nD τ) (ucRefs τ sig) (final m c)) ∗ ∃ W, owes (c : Thread nD τ) (0 : CellTallies nD τ sig Unit) W)) := by
  unfold segs
  exact CSeg.Chains.append (segsOf_chains _ _ _ _ _ _ _ _ Rw [pre] plain_pre _)
    ⟨fun _ => .rfl, CSeg.Chains.append (segsOf_chains _ _ _ _ _ _ _ _ Rw [mid] plain_mid _) ⟨fun _ => .rfl, segsOf_chains _ _ _ _ _ _ _ _ Rw [post] plain_post _⟩⟩

/-- From any memory with zero counters every execution of the reference terminates, and every buffer that holds a value of
    the program ends at `final`. -/
theorem run_main [∀ e, Nonempty (Elt F e)] : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    pcfgs adm cells_injective defs₀ Variants.none Lv lv loops tk m ρ main (segs m)
    (fun c Q => by
      rw [main_chain c]
      rw [segs_run m])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (final m c)))
    (hch := segs_chains m)
    (hinit := by
      refine Pipeline.initEach Lv lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Ref

end
-- ==== Proof.RI.Frame.lean ====
/- The reference's frame: its arguments end unchanged and no counter moves. -/
module

public import proofs.«01_k».proof.Proof.RI.Run

@[expose] public section

set_option maxRecDepth 4000

noncomputable section

namespace Cert.ReferenceIdeal.Ref

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The eleven arguments. -/
abbrev args : List (Ref sig .tc) :=
  [main_arg0, main_arg1, main_arg2, main_arg3, main_arg4, main_arg5, main_arg6, main_arg7, main_arg8, main_arg9, main_arg10]

/-- `pre` leaves the arguments alone. -/
theorem pre_args (V : Valuation τ sig (Elt F)) (r : Ref sig .tc) (hr : r ∈ args) : after pre V (Proc.devRef .tc r) = V (Proc.devRef .tc r) :=
  after_of_writes_sub pre V (StableHlo.forall_writes_sub_of_map rfl)
    ((by decide +kernel : ∀ r ∈ args, r ∉ [main_v0, main_v1, main_v2, main_v3, main_v4, main_v5, main_v6, main_v7, main_v8, main_cst, main_v9, main_cst_0, main_v10, main_cst_1, main_v11, main_c, main_v12_0, main_v12_1, main_v12_2, main_v12_3, main_v12_4, main_v12_5]) r hr)

/-- `mid` leaves the arguments alone. -/
theorem mid_args (V : Valuation τ sig (Elt F)) (r : Ref sig .tc) (hr : r ∈ args) : after mid V (Proc.devRef .tc r) = V (Proc.devRef .tc r) :=
  after_of_writes_sub mid V (StableHlo.forall_writes_sub_of_map rfl)
    ((by decide +kernel : ∀ r ∈ args, r ∉ [main_v13, main_v14, main_v15, main_v16, main_v17, main_v18, main_v19, main_v20, main_v21, main_cst_2, main_v22, main_cst_3, main_v23, main_cst_4, main_v24, main_c_5, main_v25_0, main_v25_1, main_v25_2, main_v25_3, main_v25_4, main_v25_5]) r hr)

/-- `post` leaves the arguments alone. -/
theorem post_args (V : Valuation τ sig (Elt F)) (r : Ref sig .tc) (hr : r ∈ args) : after post V (Proc.devRef .tc r) = V (Proc.devRef .tc r) :=
  after_of_writes_sub post V (StableHlo.forall_writes_sub_of_map rfl)
    ((by decide +kernel : ∀ r ∈ args, r ∉ [main_v26, main_v27, main_v28, main_v29, main_v30, main_v31, main_v32, main_v33, main_v34]) r hr)

/-- `idx0` leaves the arguments alone. -/
theorem idx0_args (V : Valuation τ sig (Elt F)) (r : Ref sig .tc) (hr : r ∈ args) : after idx0 V (Proc.devRef .tc r) = V (Proc.devRef .tc r) :=
  after_of_writes_sub idx0 V (StableHlo.forall_writes_sub_of_map rfl)
    ((by decide +kernel : ∀ r ∈ args, r ∉ [main_while0b_call0_c, main_while0b_call0_c_0, main_while0b_call0_v0, main_while0b_v35]) r hr)

/-- `cell0` leaves the arguments alone. -/
theorem cell0_args (V : Valuation τ sig (Elt F)) (r : Ref sig .tc) (hr : r ∈ args) : after cell0 V (Proc.devRef .tc r) = V (Proc.devRef .tc r) :=
  after_of_writes_sub cell0 V (StableHlo.forall_writes_sub_of_map rfl)
    ((by decide +kernel : ∀ r ∈ args, r ∉ [main_while0b_v36, main_while0b_v37, main_while0b_v38, main_while0b_v39, main_while0b_v40, main_while0b_v41, main_while0b_v42, main_while0b_v43, main_while0b_v44, main_while0b_cst_11, main_while0b_v45, main_while0b_v46, main_while0b_cst_12, main_while0b_v47, main_while0b_v48, main_while0b_v49, main_while0b_v50, main_while0b_cst_13, main_while0b_v51, main_while0b_v52, main_while0b_cst_14, main_while0b_v53, main_while0b_v54, main_while0b_v55, main_while0b_v56, main_while0b_v57, main_while0b_cst_15, main_while0b_v58, main_while0b_v59, main_while0b_cst_16, main_while0b_v60, main_while0b_v61, main_while0b_v62, main_while0b_v63, main_while0b_v64, main_while0b_v65, main_while0b_v66]) r hr)

/-- `upd0` leaves the arguments alone. -/
theorem upd0_args (V : Valuation τ sig (Elt F)) (r : Ref sig .tc) (hr : r ∈ args) : after upd0 V (Proc.devRef .tc r) = V (Proc.devRef .tc r) :=
  after_of_writes_sub upd0 V (StableHlo.forall_writes_sub_of_map rfl)
    ((by decide +kernel : ∀ r ∈ args, r ∉ [main_while0b_call1_v0, main_while0b_call1_c, main_while0b_call1_c_0, main_while0b_v67]) r hr)

/-- `fin0` leaves the arguments alone. -/
theorem fin0_args (V : Valuation τ sig (Elt F)) (r : Ref sig .tc) (hr : r ∈ args) : after fin0 V (Proc.devRef .tc r) = V (Proc.devRef .tc r) :=
  after_of_writes_sub fin0 V (StableHlo.forall_writes_sub_of_map rfl)
    ((by decide +kernel : ∀ r ∈ args, r ∉ [main_while0b_c_17, main_while0b_v68, main_v12_2, main_v12_3, main_v12_4, main_v12_5]) r hr)

/-- `cond0` leaves the arguments alone. -/
theorem cond0_args (V : Valuation τ sig (Elt F)) (r : Ref sig .tc) (hr : r ∈ args) : after cond0 V (Proc.devRef .tc r) = V (Proc.devRef .tc r) :=
  after_of_writes_sub cond0 V (StableHlo.forall_writes_sub_of_map rfl)
    ((by decide +kernel : ∀ r ∈ args, r ∉ [main_while0c_c_11, main_while0c_v35]) r hr)

/-- `idx1` leaves the arguments alone. -/
theorem idx1_args (V : Valuation τ sig (Elt F)) (r : Ref sig .tc) (hr : r ∈ args) : after idx1 V (Proc.devRef .tc r) = V (Proc.devRef .tc r) :=
  after_of_writes_sub idx1 V (StableHlo.forall_writes_sub_of_map rfl)
    ((by decide +kernel : ∀ r ∈ args, r ∉ [main_while1b_call2_c, main_while1b_call2_c_0, main_while1b_call2_v0, main_while1b_v35]) r hr)

/-- `cell1` leaves the arguments alone. -/
theorem cell1_args (V : Valuation τ sig (Elt F)) (r : Ref sig .tc) (hr : r ∈ args) : after cell1 V (Proc.devRef .tc r) = V (Proc.devRef .tc r) :=
  after_of_writes_sub cell1 V (StableHlo.forall_writes_sub_of_map rfl)
    ((by decide +kernel : ∀ r ∈ args, r ∉ [main_while1b_v36, main_while1b_v37, main_while1b_v38, main_while1b_v39, main_while1b_v40, main_while1b_v41, main_while1b_v42, main_while1b_v43, main_while1b_v44, main_while1b_cst_11, main_while1b_v45, main_while1b_v46, main_while1b_cst_12, main_while1b_v47, main_while1b_v48, main_while1b_v49, main_while1b_v50, main_while1b_cst_13, main_while1b_v51, main_while1b_v52, main_while1b_cst_14, main_while1b_v53, main_while1b_v54, main_while1b_v55, main_while1b_v56, main_while1b_v57, main_while1b_cst_15, main_while1b_v58, main_while1b_v59, main_while1b_cst_16, main_while1b_v60, main_while1b_v61, main_while1b_v62, main_while1b_v63, main_while1b_v64, main_while1b_v65, main_while1b_v66]) r hr)

/-- `upd1` leaves the arguments alone. -/
theorem upd1_args (V : Valuation τ sig (Elt F)) (r : Ref sig .tc) (hr : r ∈ args) : after upd1 V (Proc.devRef .tc r) = V (Proc.devRef .tc r) :=
  after_of_writes_sub upd1 V (StableHlo.forall_writes_sub_of_map rfl)
    ((by decide +kernel : ∀ r ∈ args, r ∉ [main_while1b_call3_v0, main_while1b_call3_c, main_while1b_call3_c_0, main_while1b_v67]) r hr)

/-- `fin1` leaves the arguments alone. -/
theorem fin1_args (V : Valuation τ sig (Elt F)) (r : Ref sig .tc) (hr : r ∈ args) : after fin1 V (Proc.devRef .tc r) = V (Proc.devRef .tc r) :=
  after_of_writes_sub fin1 V (StableHlo.forall_writes_sub_of_map rfl)
    ((by decide +kernel : ∀ r ∈ args, r ∉ [main_while1b_c_17, main_while1b_v68, main_v25_2, main_v25_3, main_v25_4, main_v25_5]) r hr)

/-- `cond1` leaves the arguments alone. -/
theorem cond1_args (V : Valuation τ sig (Elt F)) (r : Ref sig .tc) (hr : r ∈ args) : after cond1 V (Proc.devRef .tc r) = V (Proc.devRef .tc r) :=
  after_of_writes_sub cond1 V (StableHlo.forall_writes_sub_of_map rfl)
    ((by decide +kernel : ∀ r ∈ args, r ∉ [main_while1c_c_11, main_while1c_v35]) r hr)

/-- A pass of loop 0 leaves the arguments alone. -/
theorem pass0_args (V : Valuation τ sig (Elt F)) (r : Ref sig .tc) (hr : r ∈ args) : after pass0 V (Proc.devRef .tc r) = V (Proc.devRef .tc r) := by
  simp only [pass0, after_append]
  rw [fin0_args _ r hr, upd0_args _ r hr, cell0_args _ r hr, idx0_args _ r hr, cond0_args _ r hr]

/-- A pass of loop 1 leaves the arguments alone. -/
theorem pass1_args (V : Valuation τ sig (Elt F)) (r : Ref sig .tc) (hr : r ∈ args) : after pass1 V (Proc.devRef .tc r) = V (Proc.devRef .tc r) := by
  simp only [pass1, after_append]
  rw [fin1_args _ r hr, upd1_args _ r hr, cell1_args _ r hr, idx1_args _ r hr, cond1_args _ r hr]

variable (m : (ℓ : Loc nD τ sig) → Buf (Elt F) ℓ) (ρ : Dev nD → PrngReg)

theorem K0_args (c : Dev nD) (r : Ref sig .tc) (hr : r ∈ args) : (k : ℕ) → K0 m k c (Proc.devRef .tc r) = launchContents m c (Proc.devRef .tc r)
  | 0 => pre_args _ r hr
  | k + 1 => by rw [K0_succ, pass0_args _ r hr, K0_args c r hr k]

theorem E1_args (c : Dev nD) (r : Ref sig .tc) (hr : r ∈ args) : E1 m c (Proc.devRef .tc r) = launchContents m c (Proc.devRef .tc r) := by
  rw [E1, mid_args _ r hr, cond0_args _ r hr, K0_args m c r hr]

theorem K1_args (c : Dev nD) (r : Ref sig .tc) (hr : r ∈ args) : (k : ℕ) → K1 m k c (Proc.devRef .tc r) = launchContents m c (Proc.devRef .tc r)
  | 0 => E1_args m c r hr
  | k + 1 => by rw [K1_succ, pass1_args _ r hr, K1_args c r hr k]

/-- Every argument ends as it was launched. -/
theorem final_args (c : Dev nD) (r : Ref sig .tc) (hr : r ∈ args) : final m c (Proc.devRef .tc r) = launchContents m c (Proc.devRef .tc r) := by
  rw [final, post_args _ r hr, cond1_args _ r hr, K1_args m c r hr]

/-- The program declares no semaphore, so every family of counters is the zero one. -/
theorem sem_zero {α : Type} [Zero α] (f : GSem nD τ sig → α) : f = fun _ => 0 := by
  funext g
  obtain ⟨_, s⟩ := g
  rcases s with s | s
  · exact s.elim0
  · exact s.elim0

end Cert.ReferenceIdeal.Ref

end
-- ==== Proof.Net.lean ====
/- The two-layer recurrent net over the extended reals, for one sequence, and the kernel's padded arithmetic for one
   sequence against it. No program is mentioned here. -/
module

public import Idealize.ShloMosaic.PureOps.Ideal
public import Idealize.ShloMosaic.Lib.ValueIdx

@[expose] public section

noncomputable section

namespace Cert.Net

open Idealize.ShloMosaic

/-! ## The gates' functions -/

/-- One half. -/
def hf : EReal := ((1 / 2 : ℝ) : EReal)

/-- The kernel's sigmoid. -/
def sk (x : EReal) : EReal := hf * Ideal.tanh (hf * x) + hf

/-- The two sigmoids are one function. -/
theorem sk_eq (x : EReal) : sk x = Ideal.logistic x := by
  induction x with
  | bot =>
    rw [Ideal.logistic_bot, sk, hf, EReal.coe_mul_bot_of_pos (by norm_num), Ideal.tanh_bot]
    rw [show (-1 : EReal) = ((-1 : ℝ) : EReal) by norm_num, ← EReal.coe_mul, ← EReal.coe_add]
    norm_num
  | top =>
    rw [Ideal.logistic_top, sk, hf, EReal.coe_mul_top_of_pos (by norm_num), Ideal.tanh_top, mul_one, ← EReal.coe_add]
    norm_num
  | coe r =>
    rw [Ideal.logistic_coe, sk, hf, ← EReal.coe_mul, Ideal.tanh_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1]
    have p1 := Real.exp_pos (1 / 2 * r)
    have p2 := Real.exp_pos (-(1 / 2 * r))
    generalize Real.exp (1 / 2 * r) = a at *
    generalize Real.exp (-(1 / 2 * r)) = b at *
    have ha : a = b⁻¹ := eq_inv_of_mul_eq_one_left h2
    subst ha
    field_simp
    ring

/-- The sigmoid is a real number, -/
theorem logistic_real (x : EReal) : ∃ r : ℝ, Ideal.logistic x = r := by
  induction x with
  | bot => exact ⟨0, by rw [Ideal.logistic_bot]; rfl⟩
  | top => exact ⟨1, by rw [Ideal.logistic_top]; rfl⟩
  | coe r => exact ⟨_, Ideal.logistic_coe r⟩

/-- and a positive one off minus infinity. -/
theorem logistic_pos {x : EReal} (h : x ≠ ⊥) : ∃ r : ℝ, 0 < r ∧ Ideal.logistic x = r := by
  induction x with
  | bot => exact absurd rfl h
  | top => exact ⟨1, one_pos, by rw [Ideal.logistic_top]; rfl⟩
  | coe r => exact ⟨_, by positivity, Ideal.logistic_coe r⟩

/-- The hyperbolic tangent is a real number. -/
theorem tanh_real (x : EReal) : ∃ r : ℝ, Ideal.tanh x = r := by
  induction x with
  | bot => exact ⟨-1, by rw [Ideal.tanh_bot]; norm_num⟩
  | top => exact ⟨1, by rw [Ideal.tanh_top]; rfl⟩
  | coe r => exact ⟨_, Ideal.tanh_coe r⟩

/-- The start value of the second layer's cell: one step at zero inputs takes it to zero. -/
theorem start_cancels (i f g : EReal) (hf : f ≠ ⊥) :
    Ideal.logistic f * -(Ideal.div (Ideal.logistic i * Ideal.tanh g) (Ideal.logistic f)) + Ideal.logistic i * Ideal.tanh g = 0 := by
  obtain ⟨a, ha⟩ := logistic_real i
  obtain ⟨b, hb⟩ := tanh_real g
  obtain ⟨s, hs, he⟩ := logistic_pos hf
  rw [ha, hb, he, Ideal.div_coe hs.ne', ← EReal.coe_mul, ← EReal.coe_mul, ← EReal.coe_neg, ← EReal.coe_mul, ← EReal.coe_add]
  rw [show (0 : EReal) = ((0 : ℝ) : EReal) from rfl]
  congr 1
  field_simp
  ring

/-! ## The net -/

/-- The weights, gate by gate (input, forget, candidate, output), unit by unit. -/
structure Weights where
  w0 : Fin 4 → Fin 50 → Fin 144 → EReal
  u0 : Fin 4 → Fin 50 → Fin 50 → EReal
  bi0 : Fin 4 → Fin 50 → EReal
  bh0 : Fin 4 → Fin 50 → EReal
  w1 : Fin 4 → Fin 50 → Fin 50 → EReal
  u1 : Fin 4 → Fin 50 → Fin 50 → EReal
  bi1 : Fin 4 → Fin 50 → EReal
  bh1 : Fin 4 → Fin 50 → EReal

/-- The cell state of the gates and the cell state before. -/
def cellC (g : Fin 4 → Fin 50 → EReal) (c : Fin 50 → EReal) (j : Fin 50) : EReal :=
  Ideal.logistic (g 1 j) * c j + Ideal.logistic (g 0 j) * Ideal.tanh (g 2 j)

/-- The hidden state of the gates and the cell state before. -/
def cellH (g : Fin 4 → Fin 50 → EReal) (c : Fin 50 → EReal) (j : Fin 50) : EReal :=
  Ideal.logistic (g 3 j) * Ideal.tanh (cellC g c j)

/-- The gates: the input's part and the recurrent product. -/
def gate (x : Fin 4 → Fin 50 → EReal) (u : Fin 4 → Fin 50 → Fin 50 → EReal) (h : Fin 50 → EReal) (q : Fin 4) (j : Fin 50) : EReal :=
  x q j + ∑ k, h k * u q j k

/-- A layer's hidden and cell state after `n` steps, from zero. -/
def layer (x : ℕ → Fin 4 → Fin 50 → EReal) (u : Fin 4 → Fin 50 → Fin 50 → EReal) : ℕ → (Fin 50 → EReal) × (Fin 50 → EReal)
  | 0 => (fun _ => 0, fun _ => 0)
  | n + 1 => (cellH (gate (x n) u (layer x u n).1) (layer x u n).2, cellC (gate (x n) u (layer x u n).1) (layer x u n).2)

variable (W : Weights) (X : ℕ → Fin 144 → EReal)

/-- The first layer's input part at step `n`. -/
def in0 (n : ℕ) (q : Fin 4) (j : Fin 50) : EReal := (∑ i, X n i * W.w0 q j i) + W.bi0 q j + W.bh0 q j

/-- The first layer. -/
def L0 : ℕ → (Fin 50 → EReal) × (Fin 50 → EReal) := layer (in0 W X) W.u0

/-- The second layer's input part at step `n`: the first layer's hidden state after `n + 1` steps. -/
def in1 (n : ℕ) (q : Fin 4) (j : Fin 50) : EReal := (∑ k, (L0 W X (n + 1)).1 k * W.w1 q j k) + W.bi1 q j + W.bh1 q j

/-- The second layer. -/
def L1 : ℕ → (Fin 50 → EReal) × (Fin 50 → EReal) := layer (in1 W X) W.u1

/-! ## The kernel's arithmetic for one sequence -/

/-- A unit among the padded ones. -/
abbrev up (j : Fin 50) : Fin 56 := ⟨j.val, by omega⟩

/-- The weights as the kernel lays them out: 56 rows a gate, and both layers' recurrent weights and biases in rows of 120. -/
structure KWeights where
  wi : Fin 4 → Fin 56 → Fin 144 → EReal
  wa : Fin 4 → Fin 56 → Fin 120 → EReal
  wb : Fin 4 → Fin 56 → Fin 120 → EReal

/-- One sequence's states in the kernel's scratch buffers. -/
structure Lane where
  hh : Fin 120 → EReal
  c1 : Fin 56 → EReal
  c2 : Fin 56 → EReal

/-- The kernel's next cell state. -/
def kC (g : Fin 4 → Fin 56 → EReal) (c : Fin 56 → EReal) (j : Fin 56) : EReal :=
  sk (g 1 j) * c j + sk (g 0 j) * Ideal.tanh (g 2 j)

/-- The kernel's next hidden state. -/
def kH (g : Fin 4 → Fin 56 → EReal) (c : Fin 56 → EReal) (j : Fin 56) : EReal :=
  sk (g 3 j) * Ideal.tanh (kC g c j)

/-- The first layer's gates in the kernel, of the input's part `xg`. -/
def kg0 (K : KWeights) (xg : Fin 4 → Fin 56 → EReal) (s : Lane) (q : Fin 4) (j : Fin 56) : EReal :=
  xg q j + ∑ k, K.wa q j k * s.hh k

/-- The second layer's gates in the kernel. -/
def kg1 (K : KWeights) (s : Lane) (q : Fin 4) (j : Fin 56) : EReal := ∑ k, K.wb q j k * s.hh k

/-- The kernel's step for one sequence. -/
def kstep (K : KWeights) (xg : Fin 4 → Fin 56 → EReal) (s : Lane) : Lane where
  hh k := if h : k.val < 56 then kH (kg0 K xg s) s.c1 ⟨k.val, h⟩
    else if h2 : k.val < 112 then kH (kg1 K s) s.c2 ⟨k.val - 56, by omega⟩ else s.hh k
  c1 := kC (kg0 K xg s) s.c1
  c2 := kC (kg1 K s) s.c2

/-- The kernel's rows hold the net's weights, and zeros beside them. -/
structure Holds (K : KWeights) (W : Weights) : Prop where
  wi : ∀ q j i, K.wi q (up j) i = W.w0 q j i
  wa : ∀ q j k, K.wa q (up j) k = if h : k.val < 50 then W.u0 q j ⟨k.val, h⟩ else if k.val = 112 then W.bi0 q j + W.bh0 q j else 0
  wb : ∀ q j k, K.wb q (up j) k = if h : k.val < 50 then W.w1 q j ⟨k.val, h⟩
    else if h : 56 ≤ k.val ∧ k.val < 106 then W.u1 q j ⟨k.val - 56, by omega⟩ else if k.val = 112 then W.bi1 q j + W.bh1 q j else 0

/-- A sum over the 120 columns, by their parts. -/
theorem sum_120 (f : Fin 120 → EReal) : ∑ k, f k = ((∑ k : Fin 50, f ⟨k.val, by omega⟩) + ((∑ k : Fin 6, f ⟨50 + k.val, by omega⟩)
    + ((∑ k : Fin 50, f ⟨56 + k.val, by omega⟩) + ((∑ k : Fin 6, f ⟨106 + k.val, by omega⟩) + (f ⟨112, by omega⟩ + ∑ k : Fin 7, f ⟨113 + k.val, by omega⟩))))) := by
  rw [show (∑ k, f k) = ∑ k : Fin (50 + (6 + (50 + (6 + (1 + 7))))), f k from rfl]
  rw [Fin.sum_univ_add, Fin.sum_univ_add, Fin.sum_univ_add, Fin.sum_univ_add, Fin.sum_univ_add]
  have e : ∀ {a a' b b' : EReal}, a = a' → b = b' → a + b = a' + b' := fun h h' => by rw [h, h']
  refine e rfl (e ?_ (e ?_ (e ?_ (e ?_ ?_))))
  · exact Finset.sum_congr rfl fun k _ => congrArg f (Fin.ext (by simp))
  · exact Finset.sum_congr rfl fun k _ => congrArg f (Fin.ext (by simp; omega))
  · exact Finset.sum_congr rfl fun k _ => congrArg f (Fin.ext (by simp; omega))
  · rw [Fin.sum_univ_one]; rfl
  · exact Finset.sum_congr rfl fun k _ => congrArg f (Fin.ext (by simp; omega))

section
variable {W X} {K : KWeights} (H : Holds K W)
include H

/-- The first layer's row against the states. -/
theorem sum_wa (q : Fin 4) (j : Fin 50) (hh : Fin 120 → EReal) (h1 : hh ⟨112, by omega⟩ = 1) :
    ∑ k, K.wa q (up j) k * hh k = (∑ k : Fin 50, hh ⟨k.val, by omega⟩ * W.u0 q j k) + (W.bi0 q j + W.bh0 q j) := by
  rw [sum_120]
  simp only [H.wa]
  have z1 : ∀ k : Fin 50, ((if h : k.val < 50 then W.u0 q j ⟨k.val, h⟩ else if k.val = 112 then W.bi0 q j + W.bh0 q j else 0) * hh ⟨k.val, by omega⟩) = hh ⟨k.val, by omega⟩ * W.u0 q j k :=
    fun k => by rw [dif_pos k.isLt, mul_comm]
  have z2 : ∀ k : Fin 6, ((if h : 50 + k.val < 50 then W.u0 q j ⟨50 + k.val, h⟩ else if 50 + k.val = 112 then W.bi0 q j + W.bh0 q j else 0) * hh ⟨50 + k.val, by omega⟩) = 0 :=
    fun k => by rw [dif_neg (by omega), if_neg (by omega), zero_mul]
  have z3 : ∀ k : Fin 50, ((if h : 56 + k.val < 50 then W.u0 q j ⟨56 + k.val, h⟩ else if 56 + k.val = 112 then W.bi0 q j + W.bh0 q j else 0) * hh ⟨56 + k.val, by omega⟩) = 0 :=
    fun k => by rw [dif_neg (by omega), if_neg (by omega), zero_mul]
  have z4 : ∀ k : Fin 6, ((if h : 106 + k.val < 50 then W.u0 q j ⟨106 + k.val, h⟩ else if 106 + k.val = 112 then W.bi0 q j + W.bh0 q j else 0) * hh ⟨106 + k.val, by omega⟩) = 0 :=
    fun k => by rw [dif_neg (by omega), if_neg (by omega), zero_mul]
  have z5 : ∀ k : Fin 7, ((if h : 113 + k.val < 50 then W.u0 q j ⟨113 + k.val, h⟩ else if 113 + k.val = 112 then W.bi0 q j + W.bh0 q j else 0) * hh ⟨113 + k.val, by omega⟩) = 0 :=
    fun k => by rw [dif_neg (by omega), if_neg (by omega), zero_mul]
  simp only [z1, z2, z3, z4, z5, Finset.sum_const_zero, zero_add, add_zero]
  simp only [if_true, h1, mul_one]
  rw [dif_neg (by omega)]

/-- The second layer's row against the states. -/
theorem sum_wb (q : Fin 4) (j : Fin 50) (hh : Fin 120 → EReal) (h1 : hh ⟨112, by omega⟩ = 1) :
    ∑ k, K.wb q (up j) k * hh k = (∑ k : Fin 50, hh ⟨k.val, by omega⟩ * W.w1 q j k)
      + ((∑ k : Fin 50, hh ⟨56 + k.val, by omega⟩ * W.u1 q j k) + (W.bi1 q j + W.bh1 q j)) := by
  rw [sum_120]
  simp only [H.wb]
  have z1 : ∀ k : Fin 50, ((if h : k.val < 50 then W.w1 q j ⟨k.val, h⟩ else if h : 56 ≤ k.val ∧ k.val < 106 then W.u1 q j ⟨k.val - 56, by omega⟩ else if k.val = 112 then W.bi1 q j + W.bh1 q j else 0) * hh ⟨k.val, by omega⟩) = hh ⟨k.val, by omega⟩ * W.w1 q j k :=
    fun k => by rw [dif_pos k.isLt, mul_comm]
  have z2 : ∀ k : Fin 6, ((if h : 50 + k.val < 50 then W.w1 q j ⟨50 + k.val, h⟩ else if h : 56 ≤ 50 + k.val ∧ 50 + k.val < 106 then W.u1 q j ⟨50 + k.val - 56, by omega⟩ else if 50 + k.val = 112 then W.bi1 q j + W.bh1 q j else 0) * hh ⟨50 + k.val, by omega⟩) = 0 :=
    fun k => by rw [dif_neg (by omega), dif_neg (by omega), if_neg (by omega), zero_mul]
  have z3 : ∀ k : Fin 50, ((if h : 56 + k.val < 50 then W.w1 q j ⟨56 + k.val, h⟩ else if h : 56 ≤ 56 + k.val ∧ 56 + k.val < 106 then W.u1 q j ⟨56 + k.val - 56, by omega⟩ else if 56 + k.val = 112 then W.bi1 q j + W.bh1 q j else 0) * hh ⟨56 + k.val, by omega⟩) = hh ⟨56 + k.val, by omega⟩ * W.u1 q j k :=
    fun k => by
      rw [dif_neg (by omega), dif_pos (by omega), mul_comm]
      congr 2
      exact Fin.ext (by simp)
  have z4 : ∀ k : Fin 6, ((if h : 106 + k.val < 50 then W.w1 q j ⟨106 + k.val, h⟩ else if h : 56 ≤ 106 + k.val ∧ 106 + k.val < 106 then W.u1 q j ⟨106 + k.val - 56, by omega⟩ else if 106 + k.val = 112 then W.bi1 q j + W.bh1 q j else 0) * hh ⟨106 + k.val, by omega⟩) = 0 :=
    fun k => by rw [dif_neg (by omega), dif_neg (by omega), if_neg (by omega), zero_mul]
  have z5 : ∀ k : Fin 7, ((if h : 113 + k.val < 50 then W.w1 q j ⟨113 + k.val, h⟩ else if h : 56 ≤ 113 + k.val ∧ 113 + k.val < 106 then W.u1 q j ⟨113 + k.val - 56, by omega⟩ else if 113 + k.val = 112 then W.bi1 q j + W.bh1 q j else 0) * hh ⟨113 + k.val, by omega⟩) = 0 :=
    fun k => by rw [dif_neg (by omega), dif_neg (by omega), if_neg (by omega), zero_mul]
  simp only [z1, z2, z3, z4, z5, Finset.sum_const_zero, zero_add, add_zero]
  simp only [if_true, h1, mul_one]
  rw [dif_neg (by omega), dif_neg (by omega)]

end

/-- The kernel's cell on the units that count. -/
theorem kC_eq {g : Fin 4 → Fin 56 → EReal} {g' : Fin 4 → Fin 50 → EReal} {c : Fin 56 → EReal} {c' : Fin 50 → EReal}
    (hg : ∀ q j, g q (up j) = g' q j) (hc : ∀ j, c (up j) = c' j) (j : Fin 50) : kC g c (up j) = cellC g' c' j := by
  simp only [kC, cellC, sk_eq, hg, hc]

/-- The kernel's hidden state on the units that count. -/
theorem kH_eq {g : Fin 4 → Fin 56 → EReal} {g' : Fin 4 → Fin 50 → EReal} {c : Fin 56 → EReal} {c' : Fin 50 → EReal}
    (hg : ∀ q j, g q (up j) = g' q j) (hc : ∀ j, c (up j) = c' j) (j : Fin 50) : kH g c (up j) = cellH g' c' j := by
  simp only [kH, cellH, sk_eq, hg, kC_eq hg hc]

/-- What a lane holds after `n` steps: the first layer after `n`, and the second after `n - 1`, which before the first
    step has the start value for its cell. -/
structure After (W : Weights) (X : ℕ → Fin 144 → EReal) (n : ℕ) (s : Lane) : Prop where
  one : s.hh ⟨112, by omega⟩ = 1
  h1 : ∀ j : Fin 50, s.hh ⟨j.val, by omega⟩ = (L0 W X n).1 j
  c1 : ∀ j : Fin 50, s.c1 (up j) = (L0 W X n).2 j
  h2 : ∀ j : Fin 50, s.hh ⟨56 + j.val, by omega⟩ = if n = 0 then 0 else (L1 W X (n - 1)).1 j
  c2 : ∀ j : Fin 50, s.c2 (up j) = if n = 0 then
      -(Ideal.div (Ideal.logistic (W.bi1 0 j + W.bh1 0 j) * Ideal.tanh (W.bi1 2 j + W.bh1 2 j)) (Ideal.logistic (W.bi1 1 j + W.bh1 1 j)))
    else (L1 W X (n - 1)).2 j

section
variable {W X} {K : KWeights} (H : Holds K W)
include H

/-- The first layer's gates in the kernel are the net's. -/
theorem kg0_eq {n : ℕ} {s : Lane} (A : After W X n s) (xg : Fin 4 → Fin 56 → EReal)
    (hx : ∀ q j, xg q (up j) = ∑ i, K.wi q (up j) i * X n i) (q : Fin 4) (j : Fin 50) :
    kg0 K xg s q (up j) = gate (in0 W X n) W.u0 (L0 W X n).1 q j := by
  rw [kg0, sum_wa H q j s.hh A.one, hx, gate, in0]
  simp only [A.h1, H.wi]
  rw [show (∑ i, W.w0 q j i * X n i) = ∑ i, X n i * W.w0 q j i from Finset.sum_congr rfl fun i _ => mul_comm _ _]
  abel

/-- The second layer's gates in the kernel are the net's of a step before. -/
theorem kg1_eq {n : ℕ} {s : Lane} (A : After W X (n + 1) s) (q : Fin 4) (j : Fin 50) :
    kg1 K s q (up j) = gate (in1 W X n) W.u1 (L1 W X n).1 q j := by
  rw [kg1, sum_wb H q j s.hh A.one, gate, in1]
  simp only [A.h1, A.h2, if_neg (Nat.succ_ne_zero n), Nat.add_sub_cancel]
  abel

/-- Before the first step they are the biases. -/
theorem kg1_zero {s : Lane} (A : After W X 0 s) (q : Fin 4) (j : Fin 50) :
    kg1 K s q (up j) = W.bi1 q j + W.bh1 q j := by
  rw [kg1, sum_wb H q j s.hh A.one]
  simp only [A.h1, A.h2, if_true, L0, layer, zero_mul, Finset.sum_const_zero, zero_add]

/-- One step of the kernel for one sequence. -/
theorem kstep_after (hb : ∀ j, W.bi1 1 j + W.bh1 1 j ≠ ⊥) {n : ℕ} {s : Lane} (A : After W X n s) (xg : Fin 4 → Fin 56 → EReal)
    (hx : ∀ q j, xg q (up j) = ∑ i, K.wi q (up j) i * X n i) : After W X (n + 1) (kstep K xg s) := by
  have g0 := kg0_eq H A xg hx
  refine ⟨?_, fun j => ?_, fun j => ?_, fun j => ?_, fun j => ?_⟩
  · have := A.one
    simpa [kstep] using this
  · dsimp only [kstep]
    rw [dif_pos (by omega)]
    exact kH_eq g0 A.c1 j
  · exact kC_eq g0 A.c1 j
  · dsimp only [kstep]
    rw [dif_neg (by omega), dif_pos (by omega), if_neg (Nat.succ_ne_zero n), Nat.add_sub_cancel]
    rw [show (⟨56 + j.val - 56, by omega⟩ : Fin 56) = up j from Fin.ext (by simp)]
    cases n with
    | zero =>
      have g1 := kg1_zero H A
      rw [kH, kC, A.c2, if_pos rfl]
      simp only [g1, sk_eq]
      rw [start_cancels _ _ _ (hb j), show Ideal.tanh 0 = 0 by rw [show (0 : EReal) = ((0 : ℝ) : EReal) from rfl, Ideal.tanh_coe, Real.tanh_zero], mul_zero]
      rfl
    | succ n =>
      have c2 : ∀ j, s.c2 (up j) = (L1 W X n).2 j := fun j => by rw [A.c2, if_neg (Nat.succ_ne_zero n), Nat.add_sub_cancel]
      exact kH_eq (kg1_eq H A) c2 j
  · rw [if_neg (Nat.succ_ne_zero n), Nat.add_sub_cancel]
    cases n with
    | zero =>
      have g1 := kg1_zero H A
      show kC (kg1 K s) s.c2 (up j) = _
      rw [kC, A.c2, if_pos rfl]
      simp only [g1, sk_eq]
      rw [start_cancels _ _ _ (hb j)]
      rfl
    | succ n =>
      have c2 : ∀ j, s.c2 (up j) = (L1 W X n).2 j := fun j => by rw [A.c2, if_neg (Nat.succ_ne_zero n), Nat.add_sub_cancel]
      exact kC_eq (kg1_eq H A) c2 j

/-- The second layer's step that ends the kernel. -/
theorem last_after {n : ℕ} {s : Lane} (A : After W X (n + 1) s) (j : Fin 50) :
    kH (kg1 K s) s.c2 (up j) = (L1 W X (n + 1)).1 j := by
  have c2 : ∀ j, s.c2 (up j) = (L1 W X n).2 j := fun j => by rw [A.c2, if_neg (Nat.succ_ne_zero n), Nat.add_sub_cancel]
  exact kH_eq (kg1_eq H A) c2 j

end

/-- A sum over the padded units, where the weight of the padding is zero. -/
theorem sum_56 (w : Fin 56 → EReal) (w' : Fin 50 → EReal) (h : Fin 56 → EReal)
    (hw : ∀ k, w k = if hk : k.val < 50 then w' ⟨k.val, hk⟩ else 0) : ∑ k, w k * h k = ∑ k : Fin 50, h (up k) * w' k := by
  rw [show (∑ k, w k * h k) = ∑ k : Fin (50 + 6), w k * h k from rfl, Fin.sum_univ_add]
  rw [Finset.sum_eq_zero (s := (Finset.univ : Finset (Fin 6))) (fun k _ => by
    rw [hw, dif_neg (by simp), zero_mul]), add_zero]
  refine Finset.sum_congr rfl fun k _ => ?_
  rw [hw, dif_pos (by simp), mul_comm]
  rfl

end Cert.Net

end
-- ==== Proof.Args.lean ====
/- The net's weights and inputs as the two programs' arguments hold them. -/
module

public import proofs.«01_k».proof.Proof.Net
public import Idealize.ShloMosaic.Lib.ValueIdx

@[expose] public section

noncomputable section

namespace Cert.Net

open Idealize.ShloMosaic Idealize.ShloMosaic.ValueIdx

/-- The argument row of unit `j` in gate `q`. -/
abbrev pos (q : Fin 4) (j : Fin 50) : Fin 200 := ⟨50 * q.val + j.val, by omega⟩

/-- The weights of the eight weight arguments. -/
def weights (a1 : (⟨2, ![200, 144]⟩ : Shape).Idx → EReal) (a2 : (⟨2, ![200, 50]⟩ : Shape).Idx → EReal) (a3 a4 : (⟨1, ![200]⟩ : Shape).Idx → EReal)
    (a5 a6 : (⟨2, ![200, 50]⟩ : Shape).Idx → EReal) (a7 a8 : (⟨1, ![200]⟩ : Shape).Idx → EReal) : Weights where
  w0 q j i := a1 (ix2 (pos q j) i)
  u0 q j k := a2 (ix2 (pos q j) k)
  bi0 q j := a3 (ix1 (pos q j))
  bh0 q j := a4 (ix1 (pos q j))
  w1 q j k := a5 (ix2 (pos q j) k)
  u1 q j k := a6 (ix2 (pos q j) k)
  bi1 q j := a7 (ix1 (pos q j))
  bh1 q j := a8 (ix1 (pos q j))

/-- Sequence `b`'s inputs, step by step. -/
def inputs (x : (⟨3, ![512, 256, 144]⟩ : Shape).Idx → EReal) (b : Fin 512) (n : ℕ) (i : Fin 144) : EReal :=
  if h : n < 256 then x (ix3 b ⟨n, h⟩ i) else 0

theorem inputs_apply (x : (⟨3, ![512, 256, 144]⟩ : Shape).Idx → EReal) (b : Fin 512) (n : Fin 256) (i : Fin 144) :
    inputs x b n.val i = x (ix3 b n i) := dif_pos n.isLt

/-- What both programs compute at output `o` of sequence `b`. -/
def result (W : Weights) (X : Fin 512 → ℕ → Fin 144 → EReal) (a9 : (⟨2, ![144, 50]⟩ : Shape).Idx → EReal) (a10 : (⟨1, ![144]⟩ : Shape).Idx → EReal)
    (b : Fin 512) (o : Fin 144) : EReal := (∑ j, (L1 W (X b) 256).1 j * a9 (ix2 o j)) + a10 (ix1 o)

end Cert.Net

end
-- ==== Proof.RI.Value.lean ====
/- The reference's operations entry by entry, and its two loops against the net. -/
module

public import proofs.«01_k».proof.Proof.RI.Frame
public import proofs.«01_k».proof.Proof.Args
public import Idealize.ShloMosaic.Lib.IdealHost
public import Idealize.ShloMosaic.Lib.DynamicIndex
public import Idealize.ShloMosaic.Lib.Pipeline.Value
public import Idealize.ShloMosaic.Lib.Pointwise.ShapeOpsCore

@[expose] public section

set_option maxRecDepth 4000

noncomputable section

namespace Cert.ReferenceIdeal.Ref

open Cert.ReferenceIdeal
open Idealize.ShloMosaic hiding ix0 ix1 ix2 ix3
open Idealize.ShloMosaic.TcCoe Idealize.ShloMosaic.StableHlo
open Idealize.ShloMosaic.ValueIdx
open Idealize.SL Idealize.SL.Sem Cert.ReferenceIdeal.Facts₀ Cert.ReferenceIdeal.Facts
open Cert.Net (pos)

theorem one_bits : Ideal.ofBits .f32 0x3F800000#32 = 1 := by
  simp [Ideal.ofBits, Ideal.ieee, -EReal.coe_mul]; norm_num

theorem zero_bits : Ideal.ofBits .f32 0x00000000#32 = 0 := Ideal.ofBits_zero_f32

theorem sig50_apply (x : FVec Ideal S512x50 .f32) (i : S512x50.Idx) : (sig50 (F := Ideal) x : FVec Ideal S512x50 .f32) i = Ideal.logistic (x i) := by
  show Ideal.div (Ideal.ofBits .f32 0x3F800000#32) (Ideal.ofBits .f32 0x3F800000#32 + Ideal.exp (-(x i))) = _
  rw [one_bits]; rfl

/-- The recurrent product at sequence `b` and row `r`. -/
theorem rec_apply (h : FVec Ideal S512x50 .f32) (w : FVec Ideal S200x50 .f32) (b : Fin 512) (r : Fin 200) :
    Host.dotGeneral dot_S512x50_S50x200_S512x200_1_0_0_1_n_n none h (transpose S50x200 [1, 0] w transposes_S200x50_S50x200_1_0) (ix2 b r)
      = ∑ k : Fin 50, h (ix2 b k) * w (ix2 r k) := by
  show FloatOps.dotGeneral _ none _ h _ (ix2 b r) = _
  rw [Ideal.dotGeneral_apply, ← Equiv.sum_comp (contrEquiv1 dot_S512x50_S50x200_S512x200_1_0_0_1_n_n 50 rfl rfl).symm]
  refine Finset.sum_congr rfl fun k _ => ?_
  have hk := contrEquiv1_symm_val dot_S512x50_S50x200_S512x200_1_0_0_1_n_n 50 rfl rfl k
  have el : dot_S512x50_S50x200_S512x200_1_0_0_1_n_n.lhsIdx (ix2 b r) ((contrEquiv1 _ 50 rfl rfl).symm k) = ix2 b k := by
    funext a; apply Fin.ext
    match a with
    | ⟨0, _⟩ => rfl
    | ⟨1, _⟩ => exact hk
  have er : dot_S512x50_S50x200_S512x200_1_0_0_1_n_n.rhsIdx (ix2 b r) ((contrEquiv1 _ 50 rfl rfl).symm k) = ix2 k r := by
    funext a; apply Fin.ext
    match a with
    | ⟨0, _⟩ => exact hk
    | ⟨1, _⟩ => rfl
  rw [el, er]
  refine congrArg (h (ix2 b k) * ·) (transpose_apply _ _ _ (ix2 k r) (ix2 r k) fun a => match a with | ⟨0, _⟩ => rfl | ⟨1, _⟩ => rfl)

/-- The head's product at sequence `b` and output `o`. -/
theorem head_apply (h : FVec Ideal S512x50 .f32) (w : FVec Ideal S144x50 .f32) (b : Fin 512) (o : Fin 144) :
    Host.dotGeneral dot_S512x50_S50x144_S512x144_1_0_0_1_n_n none h (transpose S50x144 [1, 0] w transposes_S144x50_S50x144_1_0) (ix2 b o)
      = ∑ k : Fin 50, h (ix2 b k) * w (ix2 o k) := by
  show FloatOps.dotGeneral _ none _ h _ (ix2 b o) = _
  rw [Ideal.dotGeneral_apply, ← Equiv.sum_comp (contrEquiv1 dot_S512x50_S50x144_S512x144_1_0_0_1_n_n 50 rfl rfl).symm]
  refine Finset.sum_congr rfl fun k _ => ?_
  have hk := contrEquiv1_symm_val dot_S512x50_S50x144_S512x144_1_0_0_1_n_n 50 rfl rfl k
  have el : dot_S512x50_S50x144_S512x144_1_0_0_1_n_n.lhsIdx (ix2 b o) ((contrEquiv1 _ 50 rfl rfl).symm k) = ix2 b k := by
    funext a; apply Fin.ext
    match a with
    | ⟨0, _⟩ => rfl
    | ⟨1, _⟩ => exact hk
  have er : dot_S512x50_S50x144_S512x144_1_0_0_1_n_n.rhsIdx (ix2 b o) ((contrEquiv1 _ 50 rfl rfl).symm k) = ix2 k o := by
    funext a; apply Fin.ext
    match a with
    | ⟨0, _⟩ => exact hk
    | ⟨1, _⟩ => rfl
  rw [el, er]
  refine congrArg (h (ix2 b k) * ·) (transpose_apply _ _ _ (ix2 k o) (ix2 o k) fun a => match a with | ⟨0, _⟩ => rfl | ⟨1, _⟩ => rfl)

/-- The first layer's input product at sequence `b`, step `t` and row `r`. -/
theorem in0_apply (x : FVec Ideal S512x256x144 .f32) (w : FVec Ideal S200x144 .f32) (b : Fin 512) (t : Fin 256) (r : Fin 200) :
    Host.dotGeneral dot_S512x256x144_S200x144_S512x256x200_2_1_01_0_n_n none x w (ix3 b t r) = ∑ i : Fin 144, x (ix3 b t i) * w (ix2 r i) := by
  show FloatOps.dotGeneral _ none _ x w (ix3 b t r) = _
  rw [Ideal.dotGeneral_apply, ← Equiv.sum_comp (contrEquiv1 dot_S512x256x144_S200x144_S512x256x200_2_1_01_0_n_n 144 rfl rfl).symm]
  refine Finset.sum_congr rfl fun k _ => ?_
  have hk := contrEquiv1_symm_val dot_S512x256x144_S200x144_S512x256x200_2_1_01_0_n_n 144 rfl rfl k
  have el : dot_S512x256x144_S200x144_S512x256x200_2_1_01_0_n_n.lhsIdx (ix3 b t r) ((contrEquiv1 _ 144 rfl rfl).symm k) = ix3 b t k := by
    funext a; apply Fin.ext
    match a with
    | ⟨0, _⟩ => rfl
    | ⟨1, _⟩ => rfl
    | ⟨2, _⟩ => exact hk
  have er : dot_S512x256x144_S200x144_S512x256x200_2_1_01_0_n_n.rhsIdx (ix3 b t r) ((contrEquiv1 _ 144 rfl rfl).symm k) = ix2 r k := by
    funext a; apply Fin.ext
    match a with
    | ⟨0, _⟩ => rfl
    | ⟨1, _⟩ => exact hk
  rw [el, er]

/-- The second layer's input product at sequence `b`, step `t` and row `r`. -/
theorem in1_apply (x : FVec Ideal S512x256x50 .f32) (w : FVec Ideal S200x50 .f32) (b : Fin 512) (t : Fin 256) (r : Fin 200) :
    Host.dotGeneral dot_S512x256x50_S200x50_S512x256x200_2_1_01_0_n_n none x w (ix3 b t r) = ∑ i : Fin 50, x (ix3 b t i) * w (ix2 r i) := by
  show FloatOps.dotGeneral _ none _ x w (ix3 b t r) = _
  rw [Ideal.dotGeneral_apply, ← Equiv.sum_comp (contrEquiv1 dot_S512x256x50_S200x50_S512x256x200_2_1_01_0_n_n 50 rfl rfl).symm]
  refine Finset.sum_congr rfl fun k _ => ?_
  have hk := contrEquiv1_symm_val dot_S512x256x50_S200x50_S512x256x200_2_1_01_0_n_n 50 rfl rfl k
  have el : dot_S512x256x50_S200x50_S512x256x200_2_1_01_0_n_n.lhsIdx (ix3 b t r) ((contrEquiv1 _ 50 rfl rfl).symm k) = ix3 b t k := by
    funext a; apply Fin.ext
    match a with
    | ⟨0, _⟩ => rfl
    | ⟨1, _⟩ => rfl
    | ⟨2, _⟩ => exact hk
  have er : dot_S512x256x50_S200x50_S512x256x200_2_1_01_0_n_n.rhsIdx (ix3 b t r) ((contrEquiv1 _ 50 rfl rfl).symm k) = ix2 r k := by
    funext a; apply Fin.ext
    match a with
    | ⟨0, _⟩ => rfl
    | ⟨1, _⟩ => exact hk
  rw [el, er]

/-- A bias of 200 entries, copied along both leading axes. -/
abbrev wide (v : FVec Ideal S200 .f32) : FVec Ideal S512x256x200 .f32 :=
  broadcastInDim S512x256x200 ![0, 1, 2] bcast_S1x1x200_S512x256x200_0_1_2 (broadcastInDim S1x1x200 ![2] bcast_S200_S1x1x200_2 v)

theorem wide_apply (v : FVec Ideal S200 .f32) (b : Fin 512) (t : Fin 256) (r : Fin 200) : wide v (ix3 b t r) = v (ix1 r) :=
  (broadcastInDim_apply _ _ _ (ix3 b t r) (ix3 (0 : Fin 1) (0 : Fin 1) r) fun a => match a with | ⟨0, _⟩ => rfl | ⟨1, _⟩ => rfl | ⟨2, _⟩ => rfl).trans
    (broadcastInDim_apply _ _ _ (ix3 (0 : Fin 1) (0 : Fin 1) r) (ix1 r) fun a => match a with | ⟨0, _⟩ => rfl)

/-- Gate `q` of the gates, a slice of 50 columns. -/
theorem part_apply (g : FVec Ideal S512x200 .f32) (q : Fin 4) (o : ℕ) (ho : o = 50 * q.val) (h : S512x200.Slices ![0, o] S512x50) (b : Fin 512) (j : Fin 50) :
    extractStridedSlice S512x50 ![0, o] g h (ix2 b j) = g (ix2 b (pos q j)) := by
  subst ho
  exact extractStridedSlice_apply _ _ _ (ix2 b j) (ix2 b (pos q j)) fun a => match a with | ⟨0, _⟩ => (Nat.zero_add _).symm | ⟨1, _⟩ => rfl

theorem gates_apply (xt : FVec Ideal S512x200 .f32) (wh : FVec Ideal S200x50 .f32) (h : FVec Ideal S512x50 .f32) (b : Fin 512) (q : Fin 4) (j : Fin 50) :
    (gates (F := Ideal) xt wh h : FVec Ideal S512x200 .f32) (ix2 b (pos q j)) = Cert.Net.gate (fun q j => xt (ix2 b (pos q j))) (fun q j k => wh (ix2 (pos q j) k)) (fun k => h (ix2 b k)) q j := by
  unfold gates
  rw [addf_apply, rec_apply]; rfl

theorem cNew_apply (g : FVec Ideal S512x200 .f32) (c : FVec Ideal S512x50 .f32) (b : Fin 512) (j : Fin 50) :
    (cNew (F := Ideal) g c : FVec Ideal S512x50 .f32) (ix2 b j) = Cert.Net.cellC (fun q j => g (ix2 b (pos q j))) (fun k => c (ix2 b k)) j := by
  unfold cNew
  rw [addf_apply, mulf_apply, mulf_apply, sig50_apply, sig50_apply]
  rw [part_apply g 1 50 rfl, part_apply g 0 0 rfl]
  rw [show (Host.tanh (extractStridedSlice S512x50 ![0, 100] g slices_S512x200_S512x50_0_100) : FVec Ideal S512x50 .f32) (ix2 b j)
    = Ideal.tanh (extractStridedSlice S512x50 ![0, 100] g slices_S512x200_S512x50_0_100 (ix2 b j)) from rfl, part_apply g 2 100 rfl]
  rfl

theorem hNew_apply (g : FVec Ideal S512x200 .f32) (c : FVec Ideal S512x50 .f32) (b : Fin 512) (j : Fin 50) :
    (hNew (F := Ideal) g c : FVec Ideal S512x50 .f32) (ix2 b j) = Cert.Net.cellH (fun q j => g (ix2 b (pos q j))) (fun k => c (ix2 b k)) j := by
  unfold hNew
  rw [mulf_apply, sig50_apply, part_apply g 3 150 rfl]
  exact congrArg (fun z => Ideal.logistic (g (ix2 b (pos 3 j))) * Ideal.tanh z) (cNew_apply g c b j)

/-- The counter's word after `n` passes, read signed, is `n`. -/
theorem iv_toInt (n : ℕ) (hn : n < 256) : (Scf.iv 0#32 1#32 n).toInt = n := by
  rw [show Scf.iv 0#32 1#32 n = BitVec.ofNat 32 n by simp [Scf.iv]]
  exact toInt_ofNat_of_lt (by omega)

/-- At the counter's value `n`, row `n`. -/
theorem xAt_apply (xs : FVec Ideal S256x512x200 .f32) (n : Fin 256) (b : Fin 512) (r : Fin 200) :
    (xAt (F := Ideal) xs (fun _ => Scf.iv 0#32 1#32 n.val) : FVec Ideal S512x200 .f32) (ix2 b r) = xs (ix3 n b r) := by
  unfold xAt
  rw [shapeCast_apply _ _ (ix2 b r) (ix3 (0 : Fin 1) b r) (by
    rw [Shape.rowMajor_val_three, Shape.rowMajor_val_two]
    show (0 * 512 + b.val) * 200 + r.val = b.val * 200 + r.val
    omega)]
  rw [Host.dynamicSlice_eq_extractStridedSlice S1x512x200 xs _ ![n.val, 0, 0] _ ⟨rfl, fun a => by
    match a with
    | ⟨0, _⟩ => show n.val + 1 ≤ 256; omega
    | ⟨1, _⟩ => show 0 + 512 ≤ 512; omega
    | ⟨2, _⟩ => show 0 + 200 ≤ 200; omega⟩ (fun a => by
    match a with
    | ⟨0, _⟩ => exact iv_toInt n.val n.isLt
    | ⟨1, _⟩ => rfl
    | ⟨2, _⟩ => rfl)]
  exact extractStridedSlice_apply _ _ _ (ix3 (0 : Fin 1) b r) (ix3 n b r) fun a => match a with
    | ⟨0, _⟩ => rfl | ⟨1, _⟩ => (Nat.zero_add _).symm | ⟨2, _⟩ => (Nat.zero_add _).symm

/-- At the counter's value `n`, row `n` is the new hidden state and the other rows stay. -/
theorem ysPut_apply (ys : FVec Ideal S256x512x50 .f32) (h : FVec Ideal S512x50 .f32) (n : Fin 256) (t : Fin 256) (b : Fin 512) (j : Fin 50) :
    (ysPut (F := Ideal) ys (fun _ => Scf.iv 0#32 1#32 n.val) h : FVec Ideal S256x512x50 .f32) (ix3 t b j) = if t.val = n.val then h (ix2 b j) else ys (ix3 t b j) := by
  unfold ysPut
  have h' : S256x512x50.Slices ![n.val, 0, 0] S1x512x50 := ⟨rfl, fun a => by
    match a with
    | ⟨0, _⟩ => show n.val + 1 ≤ 256; omega
    | ⟨1, _⟩ => show 0 + 512 ≤ 512; omega
    | ⟨2, _⟩ => show 0 + 50 ≤ 50; omega⟩
  rw [Host.dynamicUpdateSlice_eq_updateSlice ys _ _ _ ![n.val, 0, 0] (fun a => by
    match a with
    | ⟨0, _⟩ =>
      show (min (max (Scf.iv 0#32 1#32 n.val).toInt 0) ((256 - 1 : ℕ) : ℤ)).toNat = n.val
      rw [iv_toInt n.val n.isLt]; omega
    | ⟨1, _⟩ => rfl
    | ⟨2, _⟩ => rfl) h', updateSlice_apply]
  by_cases e : t.val = n.val
  · rw [if_pos e, dif_pos (fun a => by
      match a with
      | ⟨0, _⟩ => exact ⟨le_of_eq e.symm, by show t.val < n.val + 1; omega⟩
      | ⟨1, _⟩ => exact ⟨Nat.zero_le _, by show b.val < 0 + 512; omega⟩
      | ⟨2, _⟩ => exact ⟨Nat.zero_le _, by show j.val < 0 + 50; omega⟩)]
    exact broadcastInDim_apply _ _ _ _ (ix2 b j) fun a => match a with | ⟨0, _⟩ => rfl | ⟨1, _⟩ => rfl
  · rw [if_neg e, dif_neg fun hh => e ?_]
    have h0 := hh 0
    have h1 : n.val ≤ t.val := h0.1
    have h2 : t.val < n.val + 1 := h0.2
    omega

end Cert.ReferenceIdeal.Ref

end
-- ==== Proof.RI.Result.lean ====
/- The reference's two loops against the net, and its result entry by entry. -/
module

public import proofs.«01_k».proof.Proof.RI.Value

@[expose] public section

set_option maxRecDepth 4000

noncomputable section

namespace Cert.ReferenceIdeal.Ref

open Cert.ReferenceIdeal
open Idealize.ShloMosaic hiding ix0 ix1 ix2 ix3
open Idealize.ShloMosaic.TcCoe Idealize.ShloMosaic.StableHlo
open Idealize.ShloMosaic.ValueIdx
open Idealize.SL Idealize.SL.Sem Cert.ReferenceIdeal.Facts₀ Cert.ReferenceIdeal.Facts
open Cert.Net (pos layer)

/-! ## A loop's recurrence -/

/-- The values a loop carries, pass by pass, and how a pass changes them. -/
structure Carried (xs : FVec Ideal S256x512x200 .f32) (wh : FVec Ideal S200x50 .f32) (H C : ℕ → FVec Ideal S512x50 .f32) (Y : ℕ → FVec Ideal S256x512x50 .f32) : Prop where
  h0 : ∀ i, H 0 i = 0
  c0 : ∀ i, C 0 i = 0
  hS : ∀ n, H (n + 1) = hNew (F := Ideal) (gates (F := Ideal) (xAt (F := Ideal) xs (fun _ => Scf.iv 0#32 1#32 n)) wh (H n)) (C n)
  cS : ∀ n, C (n + 1) = cNew (F := Ideal) (gates (F := Ideal) (xAt (F := Ideal) xs (fun _ => Scf.iv 0#32 1#32 n)) wh (H n)) (C n)
  yS : ∀ n, Y (n + 1) = ysPut (F := Ideal) (Y n) (fun _ => Scf.iv 0#32 1#32 n) (H (n + 1))

section
variable {xs : FVec Ideal S256x512x200 .f32} {wh : FVec Ideal S200x50 .f32} {H C : ℕ → FVec Ideal S512x50 .f32} {Y : ℕ → FVec Ideal S256x512x50 .f32}
  (D : Carried xs wh H C Y) (b : Fin 512) (x : ℕ → Fin 4 → Fin 50 → EReal) (u : Fin 4 → Fin 50 → Fin 50 → EReal)
  (hx : ∀ (n : Fin 256) q j, xs (ix3 n b (pos q j)) = x n.val q j) (hu : ∀ q j k, wh (ix2 (pos q j) k) = u q j k)
include D hx hu

/-- Sequence `b`'s hidden and cell state after `n` passes. -/
theorem Carried.states : (n : ℕ) → n ≤ 256 → (fun j => H n (ix2 b j)) = (layer x u n).1 ∧ (fun j => C n (ix2 b j)) = (layer x u n).2
  | 0, _ => ⟨funext fun _ => D.h0 _, funext fun _ => D.c0 _⟩
  | n + 1, hn => by
    obtain ⟨ih, ic⟩ := Carried.states n (by omega)
    have hg : (fun q j => gates (F := Ideal) (xAt (F := Ideal) xs (fun _ => Scf.iv 0#32 1#32 n)) wh (H n) (ix2 b (pos q j)))
        = Cert.Net.gate (x n) u (layer x u n).1 := by
      funext q j
      rw [gates_apply, ih]
      congr 1
      · funext q j
        exact (xAt_apply xs ⟨n, by omega⟩ b (pos q j)).trans (hx ⟨n, by omega⟩ q j)
      · funext q j k; exact hu q j k
    constructor
    · funext j
      rw [D.hS, hNew_apply, hg, ic]; rfl
    · funext j
      rw [D.cS, cNew_apply, hg, ic]; rfl

/-- The rows written by the first `n` passes. -/
theorem Carried.rows : (n : ℕ) → n ≤ 256 → ∀ (t : Fin 256) (j : Fin 50), t.val < n → Y n (ix3 t b j) = (layer x u (t.val + 1)).1 j
  | 0, _, _, _, h => absurd h (Nat.not_lt_zero _)
  | n + 1, hn, t, j, h => by
    rw [D.yS]
    refine (ysPut_apply (Y n) (H (n + 1)) ⟨n, by omega⟩ t b j).trans ?_
    by_cases e : t.val = n
    · rw [if_pos e, e]
      exact congrFun (Carried.states D b x u hx hu (n + 1) hn).1 j
    · rw [if_neg e]
      exact Carried.rows n (by omega) t j (by omega)
end

/-! ## The two loops -/

/-- A layer's input part, time first: the product, then the two biases. -/
abbrev part (p : FVec Ideal S512x256x200 .f32) (bi bh : FVec Ideal S200 .f32) : FVec Ideal S256x512x200 .f32 :=
  transpose S256x512x200 [1, 0, 2] (addf (addf p (wide bi)) (wide bh)) transposes_S512x256x200_S256x512x200_1_0_2

theorem part_at (p : FVec Ideal S512x256x200 .f32) (bi bh : FVec Ideal S200 .f32) (t : Fin 256) (b : Fin 512) (r : Fin 200) :
    part p bi bh (ix3 t b r) = p (ix3 b t r) + bi (ix1 r) + bh (ix1 r) := by
  refine (transpose_apply _ _ _ (ix3 t b r) (ix3 b t r) fun a => match a with | ⟨0, _⟩ => rfl | ⟨1, _⟩ => rfl | ⟨2, _⟩ => rfl).trans ?_
  rw [addf_apply, addf_apply, wide_apply, wide_apply]

section
variable (V : Valuation τ sig (Elt Ideal))

theorem pre_xs : (after pre V (Proc.devRef .tc main_v12_0) : FVec Ideal S256x512x200 .f32)
    = part (Host.dotGeneral (F := Ideal) (φ₁ := .f32) (φ₂ := .f32) dot_S512x256x144_S200x144_S512x256x200_2_1_01_0_n_n none
        (shapeCast S512x256x144 (V (Proc.devRef .tc main_arg0) : FVec Ideal S512x256x16x9 .f32) shapeCasts_S512x256x16x9_S512x256x144) (V (Proc.devRef .tc main_arg1)))
      (V (Proc.devRef .tc main_arg3)) (V (Proc.devRef .tc main_arg4)) := by
  after_reads_simp; rfl
theorem pre_wh : after pre V (Proc.devRef .tc main_v12_1) = V (Proc.devRef .tc main_arg2) := by
  after_reads_simp; rfl
theorem pre_h : (after pre V (Proc.devRef .tc main_v12_3) : FVec Ideal S512x50 .f32) = (fun _ => (0 : EReal) : FVec Ideal S512x50 .f32) := by
  after_reads_simp; exact funext fun _ => zero_bits
theorem pre_c : (after pre V (Proc.devRef .tc main_v12_4) : FVec Ideal S512x50 .f32) = (fun _ => (0 : EReal) : FVec Ideal S512x50 .f32) := by
  after_reads_simp; exact funext fun _ => zero_bits

theorem mid_xs : (after mid V (Proc.devRef .tc main_v25_0) : FVec Ideal S256x512x200 .f32)
    = part (Host.dotGeneral (F := Ideal) (φ₁ := .f32) (φ₂ := .f32) dot_S512x256x50_S200x50_S512x256x200_2_1_01_0_n_n none
        (transpose S512x256x50 [1, 0, 2] (V (Proc.devRef .tc main_v12_5) : FVec Ideal S256x512x50 .f32) transposes_S256x512x50_S512x256x50_1_0_2) (V (Proc.devRef .tc main_arg5)))
      (V (Proc.devRef .tc main_arg7)) (V (Proc.devRef .tc main_arg8)) := by
  after_reads_simp; rfl
theorem mid_wh : after mid V (Proc.devRef .tc main_v25_1) = V (Proc.devRef .tc main_arg6) := by
  after_reads_simp; rfl
theorem mid_h : (after mid V (Proc.devRef .tc main_v25_3) : FVec Ideal S512x50 .f32) = (fun _ => (0 : EReal) : FVec Ideal S512x50 .f32) := by
  after_reads_simp; exact funext fun _ => zero_bits
theorem mid_c : (after mid V (Proc.devRef .tc main_v25_4) : FVec Ideal S512x50 .f32) = (fun _ => (0 : EReal) : FVec Ideal S512x50 .f32) := by
  after_reads_simp; exact funext fun _ => zero_bits
theorem cond0_ys : after cond0 V (Proc.devRef .tc main_v12_5) = V (Proc.devRef .tc main_v12_5) := by
  after_reads_simp
theorem cond1_ys : after cond1 V (Proc.devRef .tc main_v25_5) = V (Proc.devRef .tc main_v25_5) := by
  after_reads_simp

/-- The head's result, before its last axis is split in two. -/
abbrev head (ys : FVec Ideal S256x512x50 .f32) (wf : FVec Ideal S144x50 .f32) (bf : FVec Ideal S144 .f32) : FVec Ideal S512x144 .f32 :=
  addf (Host.dotGeneral (F := Ideal) (φ₁ := .f32) (φ₂ := .f32) dot_S512x50_S50x144_S512x144_1_0_0_1_n_n none
      (shapeCast S512x50 (extractStridedSlice S512x1x50 ![0, 255, 0] (transpose S512x256x50 [1, 0, 2] ys transposes_S256x512x50_S512x256x50_1_0_2)
        slices_S512x256x50_S512x1x50_0_255_0) shapeCasts_S512x1x50_S512x50)
      (transpose S50x144 [1, 0] wf transposes_S144x50_S50x144_1_0))
    (broadcastInDim S512x144 ![0, 1] bcast_S1x144_S512x144_0_1 (broadcastInDim S1x144 ![1] bcast_S144_S1x144_1 bf))

theorem head_at (ys : FVec Ideal S256x512x50 .f32) (wf : FVec Ideal S144x50 .f32) (bf : FVec Ideal S144 .f32) (b : Fin 512) (o : Fin 144) :
    head ys wf bf (ix2 b o) = (∑ k : Fin 50, ys (ix3 255 b k) * wf (ix2 o k)) + bf (ix1 o) := by
  unfold head
  rw [addf_apply, head_apply]
  congr 1
  · refine Finset.sum_congr rfl fun k _ => congrArg (· * wf (ix2 o k)) ?_
    refine (shapeCast_apply _ _ (ix2 b k) (ix3 b (0 : Fin 1) k) (by
      rw [Shape.rowMajor_val_three, Shape.rowMajor_val_two]
      show (b.val * 1 + 0) * 50 + k.val = b.val * 50 + k.val
      omega)).trans ?_
    refine (extractStridedSlice_apply _ _ _ (ix3 b (0 : Fin 1) k) (ix3 b (255 : Fin 256) k) fun a => match a with
      | ⟨0, _⟩ => (Nat.zero_add _).symm | ⟨1, _⟩ => rfl | ⟨2, _⟩ => (Nat.zero_add _).symm).trans ?_
    exact transpose_apply _ _ _ (ix3 b (255 : Fin 256) k) (ix3 (255 : Fin 256) b k) fun a => match a with | ⟨0, _⟩ => rfl | ⟨1, _⟩ => rfl | ⟨2, _⟩ => rfl
  · exact (broadcastInDim_apply _ _ _ (ix2 b o) (ix2 (0 : Fin 1) o) fun a => match a with | ⟨0, _⟩ => rfl | ⟨1, _⟩ => rfl).trans
      (broadcastInDim_apply _ _ _ (ix2 (0 : Fin 1) o) (ix1 o) fun a => match a with | ⟨0, _⟩ => rfl)

theorem post_out : (after post V (Proc.devRef .tc main_v34) : FVec Ideal S512x16x9 .f32)
    = shapeCast S512x16x9 (head (V (Proc.devRef .tc main_v25_5)) (V (Proc.devRef .tc main_arg9)) (V (Proc.devRef .tc main_arg10))) shapeCasts_S512x144_S512x16x9 := by
  after_reads_simp; rfl
end

variable (m : (ℓ : Loc nD τ sig) → Buf (Elt Ideal) ℓ) (c : Dev nD)

theorem K0_xs : (k : ℕ) → K0 m k c (Proc.devRef .tc main_v12_0) = E0 m c (Proc.devRef .tc main_v12_0)
  | 0 => rfl
  | k + 1 => by rw [K0_succ, pass0_xs, K0_xs k]
theorem K0_wh : (k : ℕ) → K0 m k c (Proc.devRef .tc main_v12_1) = E0 m c (Proc.devRef .tc main_v12_1)
  | 0 => rfl
  | k + 1 => by rw [K0_succ, pass0_wh, K0_wh k]
theorem K1_xs : (k : ℕ) → K1 m k c (Proc.devRef .tc main_v25_0) = E1 m c (Proc.devRef .tc main_v25_0)
  | 0 => rfl
  | k + 1 => by rw [K1_succ, pass1_xs, K1_xs k]
theorem K1_wh : (k : ℕ) → K1 m k c (Proc.devRef .tc main_v25_1) = E1 m c (Proc.devRef .tc main_v25_1)
  | 0 => rfl
  | k + 1 => by rw [K1_succ, pass1_wh, K1_wh k]

theorem carried0 : Carried (E0 m c (Proc.devRef .tc main_v12_0)) (E0 m c (Proc.devRef .tc main_v12_1)) (fun k => K0 m k c (Proc.devRef .tc main_v12_3))
    (fun k => K0 m k c (Proc.devRef .tc main_v12_4)) (fun k => K0 m k c (Proc.devRef .tc main_v12_5)) where
  h0 i := congrFun (pre_h _) i
  c0 i := congrFun (pre_c _) i
  hS n := by
    show K0 m (n + 1) c (Proc.devRef .tc main_v12_3) = _
    rw [K0_succ, pass0_h, K0_xs, K0_wh, K0_ctr]; rfl
  cS n := by
    show K0 m (n + 1) c (Proc.devRef .tc main_v12_4) = _
    rw [K0_succ, pass0_c, K0_xs, K0_wh, K0_ctr]; rfl
  yS n := by
    show K0 m (n + 1) c (Proc.devRef .tc main_v12_5) = ysPut _ _ (K0 m (n + 1) c (Proc.devRef .tc main_v12_3))
    rw [K0_succ, pass0_ys, pass0_h, K0_xs, K0_wh, K0_ctr]; rfl

theorem carried1 : Carried (E1 m c (Proc.devRef .tc main_v25_0)) (E1 m c (Proc.devRef .tc main_v25_1)) (fun k => K1 m k c (Proc.devRef .tc main_v25_3))
    (fun k => K1 m k c (Proc.devRef .tc main_v25_4)) (fun k => K1 m k c (Proc.devRef .tc main_v25_5)) where
  h0 i := congrFun (mid_h _) i
  c0 i := congrFun (mid_c _) i
  hS n := by
    show K1 m (n + 1) c (Proc.devRef .tc main_v25_3) = _
    rw [K1_succ, pass1_h, K1_xs, K1_wh, K1_ctr]; rfl
  cS n := by
    show K1 m (n + 1) c (Proc.devRef .tc main_v25_4) = _
    rw [K1_succ, pass1_c, K1_xs, K1_wh, K1_ctr]; rfl
  yS n := by
    show K1 m (n + 1) c (Proc.devRef .tc main_v25_5) = ysPut _ _ (K1 m (n + 1) c (Proc.devRef .tc main_v25_3))
    rw [K1_succ, pass1_ys, pass1_h, K1_xs, K1_wh, K1_ctr]; rfl

/-- What an argument's buffer holds at launch. -/
abbrev A (r : Ref sig .tc) := launchContents m c (Proc.devRef .tc r)

/-- The net's weights in the reference's arguments. -/
abbrev W : Cert.Net.Weights := Cert.Net.weights (A m c main_arg1) (A m c main_arg2) (A m c main_arg3) (A m c main_arg4) (A m c main_arg5) (A m c main_arg6)
  (A m c main_arg7) (A m c main_arg8)

/-- The net's inputs in the reference's first argument. -/
abbrev X : Fin 512 → ℕ → Fin 144 → EReal :=
  Cert.Net.inputs (shapeCast S512x256x144 (A m c main_arg0 : FVec Ideal S512x256x16x9 .f32) shapeCasts_S512x256x16x9_S512x256x144)

/-- The first loop's rows are the first layer's hidden states. -/
theorem rows0 (b : Fin 512) (t : Fin 256) (j : Fin 50) :
    (K0 m 256 c (Proc.devRef .tc main_v12_5) : FVec Ideal S256x512x50 .f32) (ix3 t b j) = (Cert.Net.L0 (W m c) (X m c b) (t.val + 1)).1 j :=
  (carried0 m c).rows b (Cert.Net.in0 (W m c) (X m c b)) (W m c).u0
    (fun n q j => by
      rw [E0, pre_xs, part_at, in0_apply, Cert.Net.in0]
      simp only [Cert.Net.inputs_apply]
      rfl)
    (fun q j k => by rw [E0, pre_wh]; rfl) 256 (le_refl _) t j t.isLt

/-- The second loop's rows are the second layer's hidden states. -/
theorem rows1 (b : Fin 512) (t : Fin 256) (j : Fin 50) :
    (K1 m 256 c (Proc.devRef .tc main_v25_5) : FVec Ideal S256x512x50 .f32) (ix3 t b j) = (Cert.Net.L1 (W m c) (X m c b) (t.val + 1)).1 j :=
  (carried1 m c).rows b (Cert.Net.in1 (W m c) (X m c b)) (W m c).u1
    (fun n q j => by
      rw [E1, mid_xs, part_at, in1_apply, Cert.Net.in1, cond0_args _ main_arg5 (by decide), cond0_args _ main_arg7 (by decide), cond0_args _ main_arg8 (by decide),
        K0_args m c main_arg5 (by decide), K0_args m c main_arg7 (by decide), K0_args m c main_arg8 (by decide), cond0_ys]
      refine congrArg₂ (· + ·) (congrArg₂ (· + ·) (Finset.sum_congr rfl fun k _ => congrArg₂ (· * ·) ?_ rfl) rfl) rfl
      exact (transpose_apply _ _ _ (ix3 b n k) (ix3 n b k) fun a => match a with | ⟨0, _⟩ => rfl | ⟨1, _⟩ => rfl | ⟨2, _⟩ => rfl).trans (rows0 m c b n k))
    (fun q j k => by rw [E1, mid_wh, cond0_args _ main_arg6 (by decide), K0_args m c main_arg6 (by decide)]; rfl) 256 (le_refl _) t j t.isLt

/-- The reference's result. -/
theorem final_out : (final m c (Proc.devRef .tc main_v34) : FVec Ideal S512x16x9 .f32)
    = shapeCast S512x16x9 (fun i : S512x144.Idx => Cert.Net.result (W m c) (X m c) (A m c main_arg9) (A m c main_arg10) (i 0) (i 1)) shapeCasts_S512x144_S512x16x9 := by
  rw [final, post_out]
  refine congrArg (fun z => shapeCast S512x16x9 z shapeCasts_S512x144_S512x16x9) (funext fun i => ?_)
  obtain ⟨b, o, rfl⟩ : ∃ (b : Fin 512) (o : Fin 144), i = ix2 b o := ⟨i 0, i 1, ValueIdx.eq_ix2 i⟩
  show _ = Cert.Net.result (W m c) (X m c) (A m c main_arg9) (A m c main_arg10) b o
  rw [head_at, cond1_args _ main_arg9 (by decide), cond1_args _ main_arg10 (by decide), K1_args m c main_arg9 (by decide),
    K1_args m c main_arg10 (by decide), cond1_ys]
  refine congrArg₂ (· + ·) (Finset.sum_congr rfl fun k _ => congrArg₂ (· * ·) ?_ rfl) rfl
  exact rows1 m c b 255 k

end Cert.ReferenceIdeal.Ref

end
-- ==== Proof.KI.Steps.lean ====
/- The kernel's body as a loop: the printed program lists its 64 time steps one after the other; here one step is a
   function of its number, and the printed body is shown to be the 64 steps in a row. -/
module

public import proofs.«01_k».proof.KernelIdeal
public import proofs.«01_k».proof.Proof.Gen.KernelIdeal

@[expose] public section

noncomputable section

namespace Cert.KernelIdeal.Steps

open Idealize.ShloMosaic Idealize.SL.Sem Facts₀ Facts

variable {F : FTy → Type} [FloatOps F]

/-! ## What one half step computes

A half step works on 128 of the block's 256 sequences. `hh` holds the two layers' hidden states and the constant row of
ones, `wb` the stacked recurrent weights, `xg` the first layer's input products. -/

/-- One half, everywhere. -/
def halfs (s : Shape) : FVec F s .f32 := broadcast s (Scalar.ofBits .f32 0x3F000000#32)

/-- The kernel's sigmoid, `0.5 · tanh (0.5 · x) + 0.5`. -/
def sg {s : Shape} (x : FVec F s .f32) : FVec F s .f32 := addf (mulf (halfs s) (tanh (mulf (halfs s) x))) (halfs s)

/-- The stacked recurrent product of both layers. -/
def gb (wb : Vec F S448x120 .f32) (hh : Vec F S120x128 .f32) : FVec F S448x128 .f32 :=
  matmul dot_S448x120_S120x128_S448x128_1_0_0_1_n_n none (shapeCast S448x120 wb shapeCasts_S448x120_S448x120) hh
    (constant S448x128 .f32 0x00000000#32)

/-- The cell state after the gates `g` and the state before. -/
def cNew (g : FVec F S224x128 .f32) (c : Vec F S56x128 .f32) : FVec F S56x128 .f32 :=
  addf (mulf (sg (extractStridedSlice S56x128 ![56, 0] g slices_S224x128_o56_0_S56x128)) c)
    (mulf (sg (extractStridedSlice S56x128 ![0, 0] g slices_S224x128_o0_0_S56x128))
      (tanh (extractStridedSlice S56x128 ![112, 0] g slices_S224x128_o112_0_S56x128)))

/-- The hidden state after the gates `g`, from the new cell state. -/
def hNew (g : FVec F S224x128 .f32) (c : Vec F S56x128 .f32) : FVec F S56x128 .f32 :=
  mulf (sg (extractStridedSlice S56x128 ![168, 0] g slices_S224x128_o168_0_S56x128)) (tanh (cNew g c))

/-- The first layer's gates. -/
def g0 (xs : FVec F S224x128 .f32) (wb : Vec F S448x120 .f32) (hh : Vec F S120x128 .f32) : FVec F S224x128 .f32 :=
  addf xs (extractStridedSlice S224x128 ![0, 0] (gb wb hh) slices_S448x128_o0_0_S224x128)

/-- The second layer's gates. -/
def g1 (wb : Vec F S448x120 .f32) (hh : Vec F S120x128 .f32) : FVec F S224x128 .f32 :=
  extractStridedSlice S224x128 ![224, 0] (gb wb hh) slices_S448x128_o224_0_S224x128

/-- The input product of one time step. -/
def xdot (wi : Vec F S224x144 .bf16) (xt : Vec F S1x256x144 .bf16) : FVec F S224x256 .f32 :=
  matmul dot_S224x144_S256x144_S224x256_1_1_0_0_n_n none (shapeCast S224x144 wi shapeCasts_S224x144_S224x144)
    (shapeCast S256x144 xt shapeCasts_S1x256x144_S256x144) (constant S224x256 .f32 0x00000000#32)

/-- A store's cast of a vector to its own shape. -/
def self (v : FVec F S56x128 .f32) : FVec F S56x128 .f32 := shapeCast S56x128 v shapeCasts_S56x128_S56x128

/-! ## The programs -/

section
variable (arg2 : Memref sig .tc .vmem S64x256x144 .bf16) (arg3 : Memref sig .tc .vmem S224x144 .bf16)
  (arg4 : Memref sig .tc .vmem S448x120 .f32) (arg10 : Memref sig .tc .vmem S120x256 .f32)
  (arg11 : Memref sig .tc .vmem S56x256 .f32) (arg12 : Memref sig .tc .vmem S56x256 .f32)

/-- One half step, on the lanes from `o` on: the two layers' gates, then the new states stored. -/
def half (o : ℕ) (i1 : ∀ a, (![0, o] : Fin 2 → Nat) a + S120x128.size a ≤ S120x256.size a)
    (i2 : ∀ a, (![0, o] : Fin 2 → Nat) a + S56x128.size a ≤ S56x256.size a)
    (i3 : ∀ a, (![0, o] : Fin 2 → Nat) a + S56x128.size a ≤ S120x256.size a)
    (i4 : ∀ a, (![56, o] : Fin 2 → Nat) a + S56x128.size a ≤ S120x256.size a)
    (xs : FVec F S224x128 .f32) : Prog (TpuEff nD τ sig (Elt F) Λ₀ .tc) PUnit := do
  let hh : Vec F S120x128 .f32 ← Prog.lift (.load arg10 (Rect.unit (s := S120x256) ![0, o] S120x128.size i1).toLoadRect (View.loadsAt_vmem h_S120x128))
  let wb : Vec F S448x120 .f32 ← Prog.lift (.load arg4 (Rect.unit (s := S448x120) ![0, 0] S448x120.size inb_S448x120_S448x120_0_0).toLoadRect (View.loadsAt_vmem h_S448x120))
  let c1 : Vec F S56x128 .f32 ← Prog.lift (.load arg11 (Rect.unit (s := S56x256) ![0, o] S56x128.size i2).toLoadRect (View.loadsAt_vmem h_S56x128))
  let c2 : Vec F S56x128 .f32 ← Prog.lift (.load arg12 (Rect.unit (s := S56x256) ![0, o] S56x128.size i2).toLoadRect (View.loadsAt_vmem h_S56x128))
  let _ ← Prog.lift (.load arg11 (Rect.unit (s := S56x256) ![0, o] S56x128.size i2).toLoadRect (View.loadsAt_vmem h_S56x128))
  Prog.lift (.store arg11 (Rect.unit (s := S56x256) ![0, o] S56x128.size i2) (self (cNew (g0 xs wb hh) c1)) Finset.univ (View.stores_vmem_bits_univ h_S56x128 rfl) (.inl rfl))
  let _ ← Prog.lift (.load arg12 (Rect.unit (s := S56x256) ![0, o] S56x128.size i2).toLoadRect (View.loadsAt_vmem h_S56x128))
  Prog.lift (.store arg12 (Rect.unit (s := S56x256) ![0, o] S56x128.size i2) (self (cNew (g1 wb hh) c2)) Finset.univ (View.stores_vmem_bits_univ h_S56x128 rfl) (.inl rfl))
  let _ ← Prog.lift (.load arg10 (Rect.unit (s := S120x256) ![0, o] S56x128.size i3).toLoadRect (View.loadsAt_vmem h_S56x128))
  Prog.lift (.store arg10 (Rect.unit (s := S120x256) ![0, o] S56x128.size i3) (self (hNew (g0 xs wb hh) c1)) Finset.univ (View.stores_vmem_bits_univ h_S56x128 rfl) (.inl rfl))
  let _ ← Prog.lift (.load arg10 (Rect.unit (s := S120x256) ![56, o] S56x128.size i4).toLoadRect (View.loadsAt_vmem h_S56x128))
  Prog.lift (.store arg10 (Rect.unit (s := S120x256) ![56, o] S56x128.size i4) (self (hNew (g1 wb hh) c2)) Finset.univ (View.stores_vmem_bits_univ h_S56x128 rfl) (.inl rfl))

/-- Row `k` of the block of inputs lies inside it. -/
theorem inb_x (k : ℕ) (hk : k < 64) : ∀ a, (![k, 0, 0] : Fin 3 → Nat) a + S1x256x144.size a ≤ S64x256x144.size a := by
  intro a; fin_cases a
  · show k + 1 ≤ 64; omega
  · show 0 + 256 ≤ 256; omega
  · show 0 + 144 ≤ 144; omega

/-- Time step `k` of the block. -/
def step (k : ℕ) (hk : k < 64) : Prog (TpuEff nD τ sig (Elt F) Λ₀ .tc) PUnit := do
  let xt : Vec F S1x256x144 .bf16 ← Prog.lift (.load arg2 (Rect.unit (s := S64x256x144) ![k, 0, 0] S1x256x144.size (inb_x k hk)).toLoadRect (View.loadsAt_vmem h_S1x256x144))
  let wi : Vec F S224x144 .bf16 ← Prog.lift (.load arg3 (Rect.unit (s := S224x144) ![0, 0] S224x144.size inb_S224x144_S224x144_0_0).toLoadRect (View.loadsAt_vmem h_S224x144))
  half arg4 arg10 arg11 arg12 0 inb_S120x256_S120x128_0_0 inb_S56x256_S56x128_0_0 inb_S120x256_S56x128_0_0 inb_S120x256_S56x128_56_0
    (extractStridedSlice S224x128 ![0, 0] (xdot wi xt) slices_S224x256_o0_0_S224x128)
  half arg4 arg10 arg11 arg12 128 inb_S120x256_S120x128_0_128 inb_S56x256_S56x128_0_128 inb_S120x256_S56x128_0_128 inb_S120x256_S56x128_56_128
    (extractStridedSlice S224x128 ![0, 128] (xdot wi xt) slices_S224x256_o0_128_S224x128)

/-- `n` time steps from step `k` on, then `rest`. -/
def stepsThen (rest : Prog (TpuEff nD τ sig (Elt F) Λ₀ .tc) PUnit) : (n k : ℕ) → k + n ≤ 64 → Prog (TpuEff nD τ sig (Elt F) Λ₀ .tc) PUnit
  | 0, _, _ => rest
  | n + 1, k, h => step arg2 arg3 arg4 arg10 arg11 arg12 k (by omega) >>= fun _ => stepsThen rest n (k + 1) (by omega)

end

/-! ## The first and the last point of a column of the grid -/

/-- The hidden states a column starts from: the column `v` in every lane. -/
def hhInit (v : Vec F S120x1 .f32) : FVec F S120x256 .f32 :=
  shapeCast S120x256 (broadcastTo S120x256 (shapeCast S120x1 (shapeCast S120x1 v shapeCasts_S120x1_S120x1) shapeCasts_S120x1_S120x1)
    broadcasts_S120x1_S120x256) shapeCasts_S120x256_S120x256

/-- The first layer's cell states a column starts from: zero. -/
def c1Init : FVec F S56x256 .f32 :=
  shapeCast S56x256 (broadcast S56x256 (Scalar.ofBits .f32 0x00000000#32)) shapeCasts_S56x256_S56x256

/-- The second layer's cell states a column starts from: the column `v` in every lane. -/
def c2Init (v : Vec F S56x1 .f32) : FVec F S56x256 .f32 :=
  shapeCast S56x256 (broadcastTo S56x256 (shapeCast S56x1 (shapeCast S56x1 v shapeCasts_S56x1_S56x1) shapeCasts_S56x1_S56x1)
    broadcasts_S56x1_S56x256) shapeCasts_S56x256_S56x256

/-- The stacked recurrent product over all 256 lanes. -/
def gbF (wb : Vec F S448x120 .f32) (hh : Vec F S120x256 .f32) : FVec F S448x256 .f32 :=
  matmul dot_S448x120_S120x256_S448x256_1_0_0_1_n_n none (shapeCast S448x120 wb shapeCasts_S448x120_S448x120) hh
    (constant S448x256 .f32 0x00000000#32)

/-- The second layer's gates over all 256 lanes. -/
def g1F (wb : Vec F S448x120 .f32) (hh : Vec F S120x256 .f32) : FVec F S224x256 .f32 :=
  extractStridedSlice S224x256 ![224, 0] (gbF wb hh) slices_S448x256_o224_0_S224x256

/-- The cell state after the gates `g`, over all 256 lanes. -/
def cNewF (g : FVec F S224x256 .f32) (c : Vec F S56x256 .f32) : FVec F S56x256 .f32 :=
  addf (mulf (sg (extractStridedSlice S56x256 ![56, 0] g slices_S224x256_o56_0_S56x256)) c)
    (mulf (sg (extractStridedSlice S56x256 ![0, 0] g slices_S224x256_o0_0_S56x256))
      (tanh (extractStridedSlice S56x256 ![112, 0] g slices_S224x256_o112_0_S56x256)))

/-- The hidden state after the gates `g`, over all 256 lanes. -/
def hNewF (g : FVec F S224x256 .f32) (c : Vec F S56x256 .f32) : FVec F S56x256 .f32 :=
  mulf (sg (extractStridedSlice S56x256 ![168, 0] g slices_S224x256_o168_0_S56x256)) (tanh (cNewF g c))

/-- The head: the linear map of the second layer's last hidden state, and its bias. -/
def head (wb : Vec F S448x120 .f32) (hh : Vec F S120x256 .f32) (c : Vec F S56x256 .f32) (wf : Vec F S144x56 .f32)
    (bf : Vec F S144x1 .f32) : FVec F S144x256 .f32 :=
  addf (matmul dot_S144x56_S56x256_S144x256_1_0_0_1_n_n none (shapeCast S144x56 wf shapeCasts_S144x56_S144x56)
      (hNewF (g1F wb hh) c) (constant S144x256 .f32 0x00000000#32))
    (broadcastTo S144x256 (shapeCast S144x1 bf shapeCasts_S144x1_S144x1) broadcasts_S144x1_S144x256)

section
variable (arg4 : Memref sig .tc .vmem S448x120 .f32) (arg5 : Memref sig .tc .vmem S120x1 .f32)
  (arg6 : Memref sig .tc .vmem S56x1 .f32) (arg7 : Memref sig .tc .vmem S144x56 .f32)
  (arg8 : Memref sig .tc .vmem S144x1 .f32) (arg9 : Memref sig .tc .vmem S144x256 .f32)
  (arg10 : Memref sig .tc .vmem S120x256 .f32)
  (arg11 : Memref sig .tc .vmem S56x256 .f32) (arg12 : Memref sig .tc .vmem S56x256 .f32)

/-- The states of a column set to what it starts from. -/
def init : Prog (TpuEff nD τ sig (Elt F) Λ₀ .tc) PUnit := do
  let v : Vec F S120x1 .f32 ← Prog.lift (.load arg5 (Rect.unit (s := S120x1) ![0, 0] S120x1.size inb_S120x1_S120x1_0_0).toLoadRect (View.loadsAt_vmem h_S120x1))
  let _ ← Prog.lift (.load arg10 (Rect.unit (s := S120x256) ![0, 0] S120x256.size inb_S120x256_S120x256_0_0).toLoadRect (View.loadsAt_vmem h_S120x256))
  Prog.lift (.store arg10 (Rect.unit (s := S120x256) ![0, 0] S120x256.size inb_S120x256_S120x256_0_0) (hhInit v) Finset.univ (View.stores_vmem_bits_univ h_S120x256 rfl) (.inl rfl))
  let _ ← Prog.lift (.load arg11 (Rect.unit (s := S56x256) ![0, 0] S56x256.size inb_S56x256_S56x256_0_0).toLoadRect (View.loadsAt_vmem h_S56x256))
  Prog.lift (.store arg11 (Rect.unit (s := S56x256) ![0, 0] S56x256.size inb_S56x256_S56x256_0_0) c1Init Finset.univ (View.stores_vmem_bits_univ h_S56x256 rfl) (.inl rfl))
  let w : Vec F S56x1 .f32 ← Prog.lift (.load arg6 (Rect.unit (s := S56x1) ![0, 0] S56x1.size inb_S56x1_S56x1_0_0).toLoadRect (View.loadsAt_vmem h_S56x1))
  let _ ← Prog.lift (.load arg12 (Rect.unit (s := S56x256) ![0, 0] S56x256.size inb_S56x256_S56x256_0_0).toLoadRect (View.loadsAt_vmem h_S56x256))
  Prog.lift (.store arg12 (Rect.unit (s := S56x256) ![0, 0] S56x256.size inb_S56x256_S56x256_0_0) (c2Init w) Finset.univ (View.stores_vmem_bits_univ h_S56x256 rfl) (.inl rfl))

/-- The second layer's last step and the head, stored. -/
def finish : Prog (TpuEff nD τ sig (Elt F) Λ₀ .tc) PUnit := do
  let wb : Vec F S448x120 .f32 ← Prog.lift (.load arg4 (Rect.unit (s := S448x120) ![0, 0] S448x120.size inb_S448x120_S448x120_0_0).toLoadRect (View.loadsAt_vmem h_S448x120))
  let hh : Vec F S120x256 .f32 ← Prog.lift (.load arg10 (Rect.unit (s := S120x256) ![0, 0] S120x256.size inb_S120x256_S120x256_0_0).toLoadRect (View.loadsAt_vmem h_S120x256))
  let c : Vec F S56x256 .f32 ← Prog.lift (.load arg12 (Rect.unit (s := S56x256) ![0, 0] S56x256.size inb_S56x256_S56x256_0_0).toLoadRect (View.loadsAt_vmem h_S56x256))
  let wf : Vec F S144x56 .f32 ← Prog.lift (.load arg7 (Rect.unit (s := S144x56) ![0, 0] S144x56.size inb_S144x56_S144x56_0_0).toLoadRect (View.loadsAt_vmem h_S144x56))
  let bf : Vec F S144x1 .f32 ← Prog.lift (.load arg8 (Rect.unit (s := S144x1) ![0, 0] S144x1.size inb_S144x1_S144x1_0_0).toLoadRect (View.loadsAt_vmem h_S144x1))
  let _ ← Prog.lift (.load arg9 (Rect.unit (s := S144x256) ![0, 0] S144x256.size inb_S144x256_S144x256_0_0).toLoadRect (View.loadsAt_vmem h_S144x256))
  Prog.lift (.store arg9 (Rect.unit (s := S144x256) ![0, 0] S144x256.size inb_S144x256_S144x256_0_0) (head wb hh c wf bf) Finset.univ (View.stores_vmem_bits_univ h_S144x256 rfl) (.inl rfl))

end

end Cert.KernelIdeal.Steps

end
-- ==== Proof.KI.Peel.lean ====
/- The printed body of the kernel is its 64 time steps in a row. -/
module

public import proofs.«01_k».proof.Proof.KI.Steps

@[expose] public section

noncomputable section

namespace Cert.KernelIdeal.Steps

open Idealize.ShloMosaic Idealize.SL.Sem Facts₀ Facts

variable {F : FTy → Type} [FloatOps F]

/-- Programs that do the same operation and go on alike are equal. -/
theorem op_congr {E : Type → Type _} {α β : Type} (e : E β) {k k' : β → Prog E α} (h : ∀ x, k x = k' x) :
    Prog.op e k = Prog.op e k' := congrArg (Prog.op e) (funext h)

/-- Whether a grid point is the first of its column, as the body tests it. -/
def firstBit (i : grid0.Coords) : BitVec 1 :=
  Scalar.cmpi .ne (Scalar.extui (Scalar.cmpi .eq (BitVec.ofNat 32 (i 1).val) 0#32) : BitVec 32) 0#32

variable (i : grid0.Coords) (arg2 : Memref sig .tc .vmem S64x256x144 .bf16) (harg2 : arg2.IsWhole) (arg3 : Memref sig .tc .vmem S224x144 .bf16) (harg3 : arg3.IsWhole) (arg4 : Memref sig .tc .vmem S448x120 .f32) (harg4 : arg4.IsWhole) (arg5 : Memref sig .tc .vmem S120x1 .f32) (harg5 : arg5.IsWhole) (arg6 : Memref sig .tc .vmem S56x1 .f32) (harg6 : arg6.IsWhole) (arg7 : Memref sig .tc .vmem S144x56 .f32) (harg7 : arg7.IsWhole) (arg8 : Memref sig .tc .vmem S144x1 .f32) (harg8 : arg8.IsWhole) (arg9 : Memref sig .tc .vmem S144x256 .f32) (harg9 : arg9.IsWhole) (arg10 : Memref sig .tc .vmem S120x256 .f32) (harg10 : arg10.IsWhole) (arg11 : Memref sig .tc .vmem S56x256 .f32) (harg11 : arg11.IsWhole) (arg12 : Memref sig .tc .vmem S56x256 .f32) (harg12 : arg12.IsWhole)

set_option maxRecDepth 65536

omit [FloatOps F] in
/-- A program that opens with a branch taken. -/
theorem first_pos {E : Type → Type _} {α β γ : Type} {c : Prop} [Decidable c] (h : c) {A : c → Prog E α} {B : ¬c → Prog E α}
    {k : α → Prog E β} {l : β → Prog E γ} {r : Prog E γ} (H : (A h >>= k) >>= l = r) : (dite c A B >>= k) >>= l = r := by
  rw [dif_pos h]; exact H

omit [FloatOps F] in
/-- A program that opens with a branch not taken. -/
theorem first_neg {E : Type → Type _} {α β γ : Type} {c : Prop} [Decidable c] (h : ¬c) {A : c → Prog E α} {B : ¬c → Prog E α}
    {k : α → Prog E β} {l : β → Prog E γ} {r : Prog E γ} (H : (B h >>= k) >>= l = r) : (dite c A B >>= k) >>= l = r := by
  rw [dif_neg h]; exact H

omit [FloatOps F] in
/-- Two programs that branch on the same test are equal when their branches are. -/
theorem last {E : Type → Type _} {α : Type} {c : Prop} [Decidable c] {A : c → Prog E α} {B : ¬c → Prog E α}
    {P Q : Prog E α} (H1 : ∀ h, A h = P) (H2 : ∀ h, B h = Q) : dite c A B = ite c P Q := by
  by_cases h : c
  · rw [dif_pos h, if_pos h, H1]
  · rw [dif_neg h, if_neg h, H2]

set_option maxHeartbeats 0 in
/-- At the first point of a column: the states set, the 64 steps, and at the last point the head. -/
theorem body_first (h : firstBit i = 1#1) :
    cc0_lstm2_fused (F := F) i arg2 harg2 arg3 harg3 arg4 harg4 arg5 harg5 arg6 harg6 arg7 harg7 arg8 harg8 arg9 harg9 arg10 harg10 arg11 harg11 arg12 harg12
      = init arg5 arg6 arg10 arg11 arg12 >>= fun _ => stepsThen arg2 arg3 arg4 arg10 arg11 arg12
          (if k0_cond2 i = 1#1 then finish arg4 arg7 arg8 arg9 arg10 arg12 else pure ⟨⟩) 64 0 (by omega) := by
  refine first_pos (c := firstBit i = 1#1) h ?_
  iterate 8 (refine op_congr _ ?_; intro _)
  iterate 64
    iterate 26 (refine op_congr _ ?_; intro _)
    clear * -
  refine last (c := k0_cond2 i = 1#1) (fun _ => ?_) (fun _ => rfl)
  iterate 7 (refine op_congr _ ?_; intro _)
  rfl

set_option maxHeartbeats 0 in
/-- At the other points: the 64 steps, and at the last point the head. -/
theorem body_later (h : ¬firstBit i = 1#1) :
    cc0_lstm2_fused (F := F) i arg2 harg2 arg3 harg3 arg4 harg4 arg5 harg5 arg6 harg6 arg7 harg7 arg8 harg8 arg9 harg9 arg10 harg10 arg11 harg11 arg12 harg12
      = stepsThen arg2 arg3 arg4 arg10 arg11 arg12
          (if k0_cond2 i = 1#1 then finish arg4 arg7 arg8 arg9 arg10 arg12 else pure ⟨⟩) 64 0 (by omega) := by
  refine first_neg (c := firstBit i = 1#1) h ?_
  iterate 64
    iterate 26 (refine op_congr _ ?_; intro _)
    clear * -
  refine last (c := k0_cond2 i = 1#1) (fun _ => ?_) (fun _ => rfl)
  iterate 7 (refine op_congr _ ?_; intro _)
  rfl

end Cert.KernelIdeal.Steps

end
-- ==== Proof.KI.Half.lean ====
/- What one time step leaves in the kernel's three scratch buffers, exactly. -/
module

public import proofs.«01_k».proof.Proof.KI.Peel
public import proofs.«01_k».proof.Proof.Gen.KernelIdeal.Frame.Runs
public import Idealize.ShloMosaic.Lib.VecWindow

@[expose] public section

set_option maxRecDepth 16384

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- The three scratch buffers: both layers' hidden states (and the row of ones), and the two layers' cell states. -/
structure St (F : FTy → Type) where
  hh : Vec F S120x256 .f32
  c1 : Vec F S56x256 .f32
  c2 : Vec F S56x256 .f32

/-- One half step on the lanes from `o` on. -/
def halfF (o : ℕ) (i1 : ∀ a, (![0, o] : Fin 2 → Nat) a + S120x128.size a ≤ S120x256.size a)
    (i2 : ∀ a, (![0, o] : Fin 2 → Nat) a + S56x128.size a ≤ S56x256.size a)
    (xs : FVec F S224x128 .f32) (wb : Vec F S448x120 .f32) (s : St F) : St F where
  hh := VecWindow.put (VecWindow.put s.hh ![0, o] S56x128.size
      (self (hNew (g0 xs wb (VecWindow.window s.hh ![0, o] S120x128.size i1)) (VecWindow.window s.c1 ![0, o] S56x128.size i2))))
    ![56, o] S56x128.size
      (self (hNew (g1 wb (VecWindow.window s.hh ![0, o] S120x128.size i1)) (VecWindow.window s.c2 ![0, o] S56x128.size i2)))
  c1 := VecWindow.put s.c1 ![0, o] S56x128.size
      (self (cNew (g0 xs wb (VecWindow.window s.hh ![0, o] S120x128.size i1)) (VecWindow.window s.c1 ![0, o] S56x128.size i2)))
  c2 := VecWindow.put s.c2 ![0, o] S56x128.size
      (self (cNew (g1 wb (VecWindow.window s.hh ![0, o] S120x128.size i1)) (VecWindow.window s.c2 ![0, o] S56x128.size i2)))

/-- The three scratch buffers held at a state. -/
def held3 (c : Dev nD) (arg10 : Memref sig .tc .vmem S120x256 .f32) (arg11 : Memref sig .tc .vmem S56x256 .f32)
    (arg12 : Memref sig .tc .vmem S56x256 .f32) (s : St F) : sProp 𝕄 :=
  iprop(owns (c : Thread nD τ) arg10 fullShare s.hh ∗ owns (c : Thread nD τ) arg11 fullShare s.c1 ∗ owns (c : Thread nD τ) arg12 fullShare s.c2)

/-- Running one half step. -/
theorem half_run (c : Dev nD) (arg4 : Memref sig .tc .vmem S448x120 .f32)
    (arg10 : Memref sig .tc .vmem S120x256 .f32) (arg11 : Memref sig .tc .vmem S56x256 .f32) (arg12 : Memref sig .tc .vmem S56x256 .f32)
    (o : ℕ) (i1 : ∀ a, (![0, o] : Fin 2 → Nat) a + S120x128.size a ≤ S120x256.size a)
    (i2 : ∀ a, (![0, o] : Fin 2 → Nat) a + S56x128.size a ≤ S56x256.size a)
    (i3 : ∀ a, (![0, o] : Fin 2 → Nat) a + S56x128.size a ≤ S120x256.size a)
    (i4 : ∀ a, (![56, o] : Fin 2 → Nat) a + S56x128.size a ≤ S120x256.size a)
    (xs : FVec F S224x128 .f32) (wb : Vec F S448x120 .f32) (s : St F) (E : Set ℕ) (K : PUnit → sProp 𝕄) :
    iprop(owns (c : Thread nD τ) arg4 fullShare wb ∗ held3 c arg10 arg11 arg12 s
        ∗ (iprop(owns (c : Thread nD τ) arg4 fullShare wb ∗ held3 c arg10 arg11 arg12 (halfF o i1 i2 xs wb s)) -∗ K ⟨⟩))
      ⊢ wp frame (wpE (defs₀ (F := F)) Variants.none c none) E (half arg4 arg10 arg11 arg12 o i1 i2 i3 i4 xs) K := by
  unfold held3 owns half
  iintro ⟨⟨%f0, %hf0, H0⟩, ⟨⟨%f1, %hf1, H1⟩, ⟨%f2, %hf2, H2⟩, ⟨%f3, %hf3, H3⟩⟩, Hk⟩
  sl_exec
  sl_step
  rw [View.readAt_full, View.readAt_unit _ _ _ rfl i1, View.readAt_unit _ _ _ rfl i2, View.readAt_unit _ _ _ rfl i2, hf0, hf1, hf2, hf3]
  iapply Hk
  isplitl [H0]
  · iexists f0; isplitr; · ipureintro; exact hf0
    iexact H0
  isplitl [H1]
  · iexists _; isplitr
    swap; · iexact H1
    ipureintro
    rw [View.read_writes_cons_put _ _ _ _ _ rfl, View.read_writes_cons_put _ _ _ _ _ rfl, View.writes_nil, hf1]; rfl
  isplitl [H2]
  · iexists _; isplitr
    swap; · iexact H2
    ipureintro
    rw [View.read_writes_cons_put _ _ _ _ _ rfl, View.writes_nil, hf2]; rfl
  · iexists _; isplitr
    swap; · iexact H3
    ipureintro
    rw [View.read_writes_cons_put _ _ _ _ _ rfl, View.writes_nil, hf3]; rfl

attribute [local irreducible] half

/-- The part of the block of inputs that time step `k` reads. -/
def xRow (x : Vec F S64x256x144 .bf16) (k : ℕ) (hk : k < 64) : Vec F S1x256x144 .bf16 :=
  VecWindow.window x ![k, 0, 0] S1x256x144.size (inb_x k hk)

/-- One time step, with `xt` the inputs of the step. -/
def stepF (wi : Vec F S224x144 .bf16) (wb : Vec F S448x120 .f32) (xt : Vec F S1x256x144 .bf16) (s : St F) : St F :=
  halfF 128 inb_S120x256_S120x128_0_128 inb_S56x256_S56x128_0_128 (extractStridedSlice S224x128 ![0, 128] (xdot wi xt) slices_S224x256_o0_128_S224x128) wb
    (halfF 0 inb_S120x256_S120x128_0_0 inb_S56x256_S56x128_0_0 (extractStridedSlice S224x128 ![0, 0] (xdot wi xt) slices_S224x256_o0_0_S224x128) wb s)

/-- The arrays a point reads, held: the inputs and the two weight arrays. -/
def reads3 (c : Dev nD) (arg2 : Memref sig .tc .vmem S64x256x144 .bf16) (arg3 : Memref sig .tc .vmem S224x144 .bf16)
    (arg4 : Memref sig .tc .vmem S448x120 .f32) (x : Vec F S64x256x144 .bf16) (wi : Vec F S224x144 .bf16) (wb : Vec F S448x120 .f32) : sProp 𝕄 :=
  iprop(owns (c : Thread nD τ) arg2 fullShare x ∗ owns (c : Thread nD τ) arg3 fullShare wi ∗ owns (c : Thread nD τ) arg4 fullShare wb)

section
variable (c : Dev nD) (arg2 : Memref sig .tc .vmem S64x256x144 .bf16) (arg3 : Memref sig .tc .vmem S224x144 .bf16)
  (arg4 : Memref sig .tc .vmem S448x120 .f32) (arg10 : Memref sig .tc .vmem S120x256 .f32)
  (arg11 : Memref sig .tc .vmem S56x256 .f32) (arg12 : Memref sig .tc .vmem S56x256 .f32)
  (x : Vec F S64x256x144 .bf16) (wi : Vec F S224x144 .bf16) (wb : Vec F S448x120 .f32)

/-- One time step as its two loads, then its two halves. -/
theorem step_op (k : ℕ) (hk : k < 64) : step (F := F) arg2 arg3 arg4 arg10 arg11 arg12 k hk
    = Prog.op (.load arg2 (Rect.unit (s := S64x256x144) ![k, 0, 0] S1x256x144.size (inb_x k hk)).toLoadRect (View.loadsAt_vmem h_S1x256x144)) fun xt =>
      Prog.op (.load arg3 (Rect.unit (s := S224x144) ![0, 0] S224x144.size inb_S224x144_S224x144_0_0).toLoadRect (View.loadsAt_vmem h_S224x144)) fun wi =>
      half arg4 arg10 arg11 arg12 0 inb_S120x256_S120x128_0_0 inb_S56x256_S56x128_0_0 inb_S120x256_S56x128_0_0 inb_S120x256_S56x128_56_0
        (extractStridedSlice S224x128 ![0, 0] (xdot wi xt) slices_S224x256_o0_0_S224x128) >>= fun _ =>
      half arg4 arg10 arg11 arg12 128 inb_S120x256_S120x128_0_128 inb_S56x256_S56x128_0_128 inb_S120x256_S56x128_0_128 inb_S120x256_S56x128_56_128
        (extractStridedSlice S224x128 ![0, 128] (xdot wi xt) slices_S224x256_o0_128_S224x128) := rfl

/-- Running one time step. -/
theorem step_run (k : ℕ) (hk : k < 64) (s : St F) (E : Set ℕ) (K : PUnit → sProp 𝕄) :
    iprop(reads3 c arg2 arg3 arg4 x wi wb ∗ held3 c arg10 arg11 arg12 s
        ∗ (iprop(reads3 c arg2 arg3 arg4 x wi wb ∗ held3 c arg10 arg11 arg12 (stepF wi wb (xRow x k hk) s)) -∗ K ⟨⟩))
      ⊢ wp frame (wpE (defs₀ (F := F)) Variants.none c none) E (step arg2 arg3 arg4 arg10 arg11 arg12 k hk) K := by
  rw [step_op]
  unfold reads3 owns
  iintro ⟨⟨⟨%f2, %hf2, H2⟩, ⟨%f3, %hf3, H3⟩, H4⟩, Hs, Hk⟩
  sl_step; sl_step
  rw [View.readAt_full, View.readAt_unit _ _ _ rfl (inb_x k hk), hf2, hf3]
  rw [wp_bind]
  iapply half_run (wb := wb) (s := s)
  unfold owns
  isplitl [H4]; · iexact H4
  isplitl [Hs]; · iexact Hs
  iintro ⟨H4, Hs⟩
  iapply half_run (wb := wb)
  unfold owns
  isplitl [H4]; · iexact H4
  isplitl [Hs]; · iexact Hs
  iintro ⟨H4, Hs⟩
  iapply Hk
  isplitr [Hs]
  · isplitl [H2]
    · iexists f2; isplitr; · ipureintro; exact hf2
      iexact H2
    isplitl [H3]
    · iexists f3; isplitr; · ipureintro; exact hf3
      iexact H3
    iexact H4
  iexact Hs

/-- `n` time steps from step `k` on. -/
def stepsF : (n k : ℕ) → k + n ≤ 64 → St F → St F
  | 0, _, _, s => s
  | n + 1, k, h, s => stepsF n (k + 1) (by omega) (stepF wi wb (xRow x k (by omega)) s)

/-- Running `n` time steps and what comes after them. -/
theorem steps_run (rest : Prog (TpuEff nD τ sig (Elt F) Λ₀ .tc) PUnit) (E : Set ℕ) (K : PUnit → sProp 𝕄) :
    ∀ (n k : ℕ) (h : k + n ≤ 64) (s : St F),
    iprop(reads3 c arg2 arg3 arg4 x wi wb ∗ held3 c arg10 arg11 arg12 s
        ∗ (iprop(reads3 c arg2 arg3 arg4 x wi wb ∗ held3 c arg10 arg11 arg12 (stepsF x wi wb n k h s))
            -∗ wp frame (wpE (defs₀ (F := F)) Variants.none c none) E rest K))
      ⊢ wp frame (wpE (defs₀ (F := F)) Variants.none c none) E (stepsThen arg2 arg3 arg4 arg10 arg11 arg12 rest n k h) K
  | 0, k, h, s => by
    iintro ⟨Hr, Hs, Hk⟩
    iapply Hk
    isplitl [Hr]; · iexact Hr
    iexact Hs
  | n + 1, k, h, s => by
    iintro ⟨Hr, Hs, Hk⟩
    unfold stepsThen
    rw [wp_bind]
    iapply step_run (x := x) (wi := wi) (wb := wb) (s := s)
    isplitl [Hr]; · iexact Hr
    isplitl [Hs]; · iexact Hs
    iintro ⟨Hr, Hs⟩
    iapply steps_run rest E K n (k + 1) _ (stepF wi wb (xRow x k (by omega)) s)
    isplitl [Hr]; · iexact Hr
    isplitl [Hs]; · iexact Hs
    iexact Hk

end

end Cert.KernelIdeal.Steps

end
-- ==== Proof.KI.Lane.lean ====
/- The kernel's step read one sequence at a time: a lane of the scratch buffers goes through the padded net's step. -/
module

public import proofs.«01_k».proof.Proof.Net
public import proofs.«01_k».proof.Proof.KI.Half
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Steps

open Idealize.ShloMosaic Idealize.ShloMosaic.ValueIdx Facts₀ Facts
open Cert.Net (sk Lane KWeights kC kH kg0 kg1 kstep)

/-- The row of unit `j` in gate `q`. -/
abbrev row (q : Fin 4) (j : Fin 56) : Fin 224 := ⟨56 * q.val + j.val, by omega⟩

/-- That row among both layers' rows, first layer -/
abbrev rowA (q : Fin 4) (j : Fin 56) : Fin 448 := ⟨56 * q.val + j.val, by omega⟩

/-- and second layer. -/
abbrev rowB (q : Fin 4) (j : Fin 56) : Fin 448 := ⟨224 + (56 * q.val + j.val), by omega⟩

/-- The kernel's two weight arrays by gate and unit. -/
def kw (wi : Vec Ideal S224x144 .bf16) (wb : Vec Ideal S448x120 .f32) : KWeights where
  wi q j i := wi (ix2 (row q j) i)
  wa q j k := wb (ix2 (rowA q j) k)
  wb q j k := wb (ix2 (rowB q j) k)

/-- One lane of the scratch buffers. -/
def laneOf (s : St Ideal) (l : Fin 256) : Lane where
  hh k := s.hh (ix2 k l)
  c1 j := s.c1 (ix2 j l)
  c2 j := s.c2 (ix2 j l)

theorem half_bits : Ideal.ofBits .f32 0x3F000000#32 = Cert.Net.hf := by
  simp [Ideal.ofBits, Ideal.ieee, -EReal.coe_mul, Cert.Net.hf]; norm_num

theorem zero_bits : Ideal.ofBits .f32 0x00000000#32 = 0 := by
  simp [Ideal.ofBits, Ideal.ieee, -EReal.coe_mul]

/-- The hyperbolic tangent at an index. -/
theorem tanh_apply {s : Shape} (x : FVec Ideal s .f32) (i : s.Idx) : tanh x i = Ideal.tanh (x i) := rfl

/-- The sigmoid at an index. -/
theorem sg_apply {s : Shape} (x : FVec Ideal s .f32) (i : s.Idx) : sg x i = sk (x i) := by
  show Ideal.ofBits .f32 0x3F000000#32 * Ideal.tanh (Ideal.ofBits .f32 0x3F000000#32 * x i) + Ideal.ofBits .f32 0x3F000000#32 = _
  rw [half_bits]; rfl

/-- The stacked product at an index. -/
theorem gb_apply (wb : Vec Ideal S448x120 .f32) (hh : Vec Ideal S120x128 .f32) (r : Fin 448) (l : Fin 128) :
    gb wb hh (ix2 r l) = ∑ k, wb (ix2 r k) * hh (ix2 k l) := by
  unfold gb
  rw [shapeCast_self]
  refine (Ideal.matmul_plain_apply (M := 448) (K := 120) (N := 128) (φ₁ := .f32) (φ₂ := .f32) none wb hh _ r l).trans ?_
  rw [show (constant S448x128 .f32 0x00000000#32 : FVec Ideal S448x128 .f32) (ix2 r l) = 0 from zero_bits, zero_add]

/-- The first layer's gates at an index. -/
theorem g0_apply (xs : FVec Ideal S224x128 .f32) (wb : Vec Ideal S448x120 .f32) (hh : Vec Ideal S120x128 .f32) (q : Fin 4)
    (j : Fin 56) (l : Fin 128) : g0 xs wb hh (ix2 (row q j) l) = xs (ix2 (row q j) l) + ∑ k, wb (ix2 (rowA q j) k) * hh (ix2 k l) := by
  show xs _ + extractStridedSlice S224x128 ![0, 0] (gb wb hh) slices_S448x128_o0_0_S224x128 _ = _
  rw [slice2_axis0_apply 0 _ _ (row q j) _ (rowA q j) (Nat.zero_add _).symm, gb_apply]

/-- The second layer's gates at an index. -/
theorem g1_apply (wb : Vec Ideal S448x120 .f32) (hh : Vec Ideal S120x128 .f32) (q : Fin 4)
    (j : Fin 56) (l : Fin 128) : g1 wb hh (ix2 (row q j) l) = ∑ k, wb (ix2 (rowB q j) k) * hh (ix2 k l) := by
  unfold g1
  rw [slice2_axis0_apply 224 _ _ _ _ (rowB q j) rfl, gb_apply]

/-- The cell state at an index. -/
theorem cNew_apply (g : FVec Ideal S224x128 .f32) (c : Vec Ideal S56x128 .f32) (j : Fin 56) (l : Fin 128) :
    cNew g c (ix2 j l) = kC (fun q j => g (ix2 (row q j) l)) (fun j => c (ix2 j l)) j := by
  unfold cNew
  rw [addf_apply, mulf_apply, mulf_apply, sg_apply, sg_apply, tanh_apply, slice2_axis0_apply 56 _ _ j _ (row 1 j) rfl,
    slice2_axis0_apply 0 _ _ j _ (row 0 j) rfl, slice2_axis0_apply 112 _ _ j _ (row 2 j) rfl]
  rfl

/-- The hidden state at an index. -/
theorem hNew_apply (g : FVec Ideal S224x128 .f32) (c : Vec Ideal S56x128 .f32) (j : Fin 56) (l : Fin 128) :
    hNew g c (ix2 j l) = kH (fun q j => g (ix2 (row q j) l)) (fun j => c (ix2 j l)) j := by
  unfold hNew
  rw [mulf_apply, sg_apply, tanh_apply, slice2_axis0_apply 168 _ _ j _ (row 3 j) rfl, cNew_apply]
  rfl

/-- A window of a matrix at an index. -/
theorem window2 {n m h w : ℕ} (x : (⟨2, ![n, m]⟩ : Shape).Idx → EReal) (r o : ℕ)
    (inb : ∀ a, (![r, o] : Fin 2 → ℕ) a + (![h, w] : Fin 2 → ℕ) a ≤ (![n, m] : Fin 2 → ℕ) a) (k : Fin h) (l : Fin w) (k' : Fin n) (l' : Fin m)
    (hk : k'.val = r + k.val) (hl : l'.val = o + l.val) :
    VecWindow.window (s := ⟨2, ![n, m]⟩) x ![r, o] ![h, w] inb (ix2 k l) = x (ix2 k' l') := by
  refine congrArg x (funext fun a => Fin.ext ?_)
  match a with
  | ⟨0, _⟩ => show r + 1 * k.val = k'.val; omega
  | ⟨1, _⟩ => show o + 1 * l.val = l'.val; omega

/-- A matrix with a window put, at an index inside -/
theorem put2_in {n m h w : ℕ} (x : (⟨2, ![n, m]⟩ : Shape).Idx → EReal) (r o : ℕ) (v : (⟨2, ![h, w]⟩ : Shape).Idx → EReal)
    (k' : Fin n) (l' : Fin m) (k : Fin h) (l : Fin w) (hk : k'.val = r + k.val) (hl : l'.val = o + l.val) :
    VecWindow.put (s := ⟨2, ![n, m]⟩) x ![r, o] ![h, w] v (ix2 k' l') = v (ix2 k l) := by
  have hin : ∀ a : Fin 2, (![r, o] : Fin 2 → ℕ) a ≤ ((ix2 k' l' : (⟨2, ![n, m]⟩ : Shape).Idx) a).val ∧ ((ix2 k' l' : (⟨2, ![n, m]⟩ : Shape).Idx) a).val < (![r, o] : Fin 2 → ℕ) a + (![h, w] : Fin 2 → ℕ) a := by
    intro a
    match a with
    | ⟨0, _⟩ => show r ≤ k'.val ∧ k'.val < r + h; omega
    | ⟨1, _⟩ => show o ≤ l'.val ∧ l'.val < o + w; omega
  refine (dif_pos hin).trans (congrArg v (funext fun a => Fin.ext ?_))
  match a with
  | ⟨0, _⟩ => show k'.val - r = k.val; omega
  | ⟨1, _⟩ => show l'.val - o = l.val; omega

/-- and outside. -/
theorem put2_out {n m h w : ℕ} (x : (⟨2, ![n, m]⟩ : Shape).Idx → EReal) (r o : ℕ) (v : (⟨2, ![h, w]⟩ : Shape).Idx → EReal)
    (k' : Fin n) (l' : Fin m) (hout : ¬(r ≤ k'.val ∧ k'.val < r + h ∧ o ≤ l'.val ∧ l'.val < o + w)) :
    VecWindow.put (s := ⟨2, ![n, m]⟩) x ![r, o] ![h, w] v (ix2 k' l') = x (ix2 k' l') := by
  refine dif_neg fun hin => hout ?_
  have h0 : r ≤ k'.val ∧ k'.val < r + h := hin 0
  have h1 : o ≤ l'.val ∧ l'.val < o + w := hin 1
  omega

section
variable (o : ℕ) (i1 : ∀ a, (![0, o] : Fin 2 → Nat) a + S120x128.size a ≤ S120x256.size a)
    (i2 : ∀ a, (![0, o] : Fin 2 → Nat) a + S56x128.size a ≤ S56x256.size a)
    (xs : FVec Ideal S224x128 .f32) (wi : Vec Ideal S224x144 .bf16) (wb : Vec Ideal S448x120 .f32) (s : St Ideal)

/-- A lane the half step works on goes one step. -/
theorem half_in (l : Fin 256) (l' : Fin 128) (hl : l.val = o + l'.val) :
    laneOf (halfF o i1 i2 xs wb s) l = kstep (kw wi wb) (fun q j => xs (ix2 (row q j) l')) (laneOf s l) := by
  have e0 : (fun q j => g0 xs wb (VecWindow.window s.hh ![0, o] S120x128.size i1) (ix2 (row q j) l'))
      = kg0 (kw wi wb) (fun q j => xs (ix2 (row q j) l')) (laneOf s l) := by
    funext q j
    rw [g0_apply]
    refine congrArg (_ + ·) (Finset.sum_congr rfl fun k _ => congrArg (_ * ·) ?_)
    exact window2 s.hh 0 o i1 k l' k l (Nat.zero_add _).symm hl
  have e1 : (fun q j => g1 wb (VecWindow.window s.hh ![0, o] S120x128.size i1) (ix2 (row q j) l')) = kg1 (kw wi wb) (laneOf s l) := by
    funext q j
    rw [g1_apply]
    refine Finset.sum_congr rfl fun k _ => congrArg (_ * ·) ?_
    exact window2 s.hh 0 o i1 k l' k l (Nat.zero_add _).symm hl
  have ec1 : (fun j => VecWindow.window s.c1 ![0, o] S56x128.size i2 (ix2 j l')) = (laneOf s l).c1 := by
    funext j
    exact window2 s.c1 0 o i2 j l' j l (Nat.zero_add _).symm hl
  have ec2 : (fun j => VecWindow.window s.c2 ![0, o] S56x128.size i2 (ix2 j l')) = (laneOf s l).c2 := by
    funext j
    exact window2 s.c2 0 o i2 j l' j l (Nat.zero_add _).symm hl
  unfold laneOf kstep
  congr 1
  · funext k
    dsimp only [halfF, self]
    rw [shapeCast_self, shapeCast_self]
    by_cases h : k.val < 56
    · rw [dif_pos h]
      refine (put2_out _ 56 o _ k l (by omega)).trans ((put2_in _ 0 o _ k l ⟨k.val, h⟩ l' (by simp) hl).trans ?_)
      rw [hNew_apply, e0, ec1]; rfl
    · rw [dif_neg h]
      by_cases h2 : k.val < 112
      · rw [dif_pos h2]
        refine (put2_in _ 56 o _ k l ⟨k.val - 56, by omega⟩ l' (by simp; omega) hl).trans ?_
        rw [hNew_apply, e1, ec2]; rfl
      · rw [dif_neg h2]
        exact (put2_out _ 56 o _ k l (by omega)).trans (put2_out _ 0 o _ k l (by omega))
  · funext j
    dsimp only [halfF, self]
    rw [shapeCast_self]
    refine (put2_in _ 0 o _ j l j l' (by simp) hl).trans ?_
    rw [cNew_apply, e0, ec1]; rfl
  · funext j
    dsimp only [halfF, self]
    rw [shapeCast_self]
    refine (put2_in _ 0 o _ j l j l' (by simp) hl).trans ?_
    rw [cNew_apply, e1, ec2]; rfl

/-- The other lanes stay. -/
theorem half_out (l : Fin 256) (hl : ¬(o ≤ l.val ∧ l.val < o + 128)) : laneOf (halfF o i1 i2 xs wb s) l = laneOf s l := by
  unfold laneOf
  congr 1
  · funext k
    exact (put2_out _ 56 o _ k l (by omega)).trans (put2_out _ 0 o _ k l (by omega))
  · funext j
    exact put2_out _ 0 o _ j l (by omega)
  · funext j
    exact put2_out _ 0 o _ j l (by omega)

end

/-- The input product at an index. -/
theorem xdot_apply (wi : Vec Ideal S224x144 .bf16) (xt : Vec Ideal S1x256x144 .bf16) (r : Fin 224) (l : Fin 256) :
    xdot wi xt (ix2 r l) = ∑ i, wi (ix2 r i) * xt (ix3 0 l i) := by
  unfold xdot
  rw [shapeCast_self]
  refine (Ideal.matmul_transposedRhs_apply (M := 224) (K := 144) (N := 256) (φ₁ := .bf16) (φ₂ := .bf16) none wi
    (shapeCast S256x144 xt shapeCasts_S1x256x144_S256x144) _ r l).trans ?_
  rw [show (constant S224x256 .f32 0x00000000#32 : FVec Ideal S224x256 .f32) (ix2 r l) = 0 from zero_bits, zero_add]
  refine Finset.sum_congr rfl fun i _ => congrArg (_ * ·) ?_
  exact shapeCast_1ab_ab_apply xt _ l i

/-- One time step, lane by lane. -/
theorem step_lane (wi : Vec Ideal S224x144 .bf16) (wb : Vec Ideal S448x120 .f32) (xt : Vec Ideal S1x256x144 .bf16) (s : St Ideal) (l : Fin 256) :
    laneOf (stepF wi wb xt s) l = kstep (kw wi wb) (fun q j => ∑ i, wi (ix2 (row q j) i) * xt (ix3 0 l i)) (laneOf s l) := by
  unfold stepF
  by_cases h : l.val < 128
  · rw [half_out 128 _ _ _ wb _ l (by omega), half_in 0 _ _ _ wi wb s l ⟨l.val, h⟩ (by simp)]
    congr 1
    funext q j
    rw [slice2_axis1_apply 0 _ _ _ _ l (by simp), xdot_apply]
  · rw [half_in 128 _ _ _ wi wb _ l ⟨l.val - 128, by omega⟩ (by simp; omega), half_out 0 _ _ _ wb s l (by omega)]
    congr 1
    funext q j
    rw [slice2_axis1_apply 128 _ _ _ _ l (by simp; omega), xdot_apply]

end Cert.KernelIdeal.Steps

end
-- ==== Proof.KI.Value.lean ====
/- The kernel's run with its values: what the scratch buffers and the output block hold after each point of the grid. -/
module

public import proofs.«01_k».proof.Proof.KI.Half
public import Idealize.ShloMosaic.Lib.Claim

@[expose] public section

set_option maxRecDepth 16384

noncomputable section

namespace Cert.KernelIdeal.Steps

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The states a column starts from. -/
def initF (v : Vec F S120x1 .f32) (w : Vec F S56x1 .f32) : St F := ⟨hhInit v, c1Init, c2Init w⟩

section
variable (c : Dev nD) (arg4 : Memref sig .tc .vmem S448x120 .f32) (arg5 : Memref sig .tc .vmem S120x1 .f32)
  (arg6 : Memref sig .tc .vmem S56x1 .f32) (arg7 : Memref sig .tc .vmem S144x56 .f32)
  (arg8 : Memref sig .tc .vmem S144x1 .f32) (arg9 : Memref sig .tc .vmem S144x256 .f32)
  (arg10 : Memref sig .tc .vmem S120x256 .f32)
  (arg11 : Memref sig .tc .vmem S56x256 .f32) (arg12 : Memref sig .tc .vmem S56x256 .f32)

/-- Setting the states. -/
theorem init_run (v : Vec F S120x1 .f32) (w : Vec F S56x1 .f32) (E : Set ℕ) (K : PUnit → sProp 𝕄) :
    iprop(owns (c : Thread nD τ) arg5 fullShare v ∗ owns (c : Thread nD τ) arg6 fullShare w
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg5 fullShare v ∗ owns (c : Thread nD τ) arg6 fullShare w ∗ held3 c arg10 arg11 arg12 (initF v w)) -∗ K ⟨⟩))
      ⊢ wp frame (wpE (defs₀ (F := F)) Variants.none c none) E (init arg5 arg6 arg10 arg11 arg12) K := by
  unfold held3 owns init
  iintro ⟨⟨%f0, %hf0, H0⟩, ⟨%f1, %hf1, H1⟩, ⟨%d2, %f2, %hf2, H2⟩, ⟨%d3, %f3, %hf3, H3⟩, ⟨%d4, %f4, %hf4, H4⟩, Hk⟩
  sl_exec
  sl_step
  rw [View.readAt_full, View.readAt_full, hf0, hf1]
  iapply Hk
  isplitl [H0]
  · iexists f0; isplitr; · ipureintro; exact hf0
    iexact H0
  isplitl [H1]
  · iexists f1; isplitr; · ipureintro; exact hf1
    iexact H1
  isplitl [H2]
  · iexists _; isplitr
    swap; · iexact H2
    ipureintro; rw [View.read_writes_full]; rfl
  isplitl [H3]
  · iexists _; isplitr
    swap; · iexact H3
    ipureintro; rw [View.read_writes_full]; rfl
  · iexists _; isplitr
    swap; · iexact H4
    ipureintro; rw [View.read_writes_full]; rfl

/-- Storing the head. -/
theorem finish_run (wb : Vec F S448x120 .f32) (wf : Vec F S144x56 .f32) (bf : Vec F S144x1 .f32) (s : St F) (E : Set ℕ) (K : PUnit → sProp 𝕄) :
    iprop(owns (c : Thread nD τ) arg4 fullShare wb ∗ owns (c : Thread nD τ) arg7 fullShare wf ∗ owns (c : Thread nD τ) arg8 fullShare bf
        ∗ (∃ d, owns (c : Thread nD τ) arg9 fullShare d) ∗ held3 c arg10 arg11 arg12 s
        ∗ (iprop(owns (c : Thread nD τ) arg4 fullShare wb ∗ owns (c : Thread nD τ) arg7 fullShare wf ∗ owns (c : Thread nD τ) arg8 fullShare bf
            ∗ owns (c : Thread nD τ) arg9 fullShare (head wb s.hh s.c2 wf bf) ∗ held3 c arg10 arg11 arg12 s) -∗ K ⟨⟩))
      ⊢ wp frame (wpE (defs₀ (F := F)) Variants.none c none) E (finish arg4 arg7 arg8 arg9 arg10 arg12) K := by
  unfold held3 owns finish
  iintro ⟨⟨%f0, %hf0, H0⟩, ⟨%f1, %hf1, H1⟩, ⟨%f2, %hf2, H2⟩, ⟨%d3, %f3, %hf3, H3⟩, ⟨⟨%f4, %hf4, H4⟩, H5, ⟨%f6, %hf6, H6⟩⟩, Hk⟩
  sl_exec
  sl_step
  rw [View.readAt_full, View.readAt_full, View.readAt_full, View.readAt_full, View.readAt_full, hf0, hf1, hf2, hf4, hf6]
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro; rw [View.read_writes_full]
  isplitl [H4]
  · iexists f4; isplitr; · ipureintro; exact hf4
    iexact H4
  isplitl [H5]; · iexact H5
  iexists f6; isplitr; · ipureintro; exact hf6
  iexact H6

end

variable (m : (ℓ : Loc nD τ sig) → Buf (Elt F) ℓ) (ρ : Dev nD → PrngReg)

/-- The 64 steps of the grid's point `t`, from the states `s`. -/
def ptF (c : Dev nD) (t : Fin cfg0.N) (s : St F) : St F :=
  stepsF (iblk m c 0 t) (iblk m c 1 t) (iblk m c 2 t) 64 0 (by omega) s

/-- The states the point `t` starts its column from. -/
def iniAt (c : Dev nD) (t : Fin cfg0.N) : St F := initF (iblk m c 3 t) (iblk m c 4 t)

/-- The states after the grid's point `n`. -/
def stAt (c : Dev nD) : (n : ℕ) → n < cfg0.N → St F
  | 0, h => ptF m c ⟨0, h⟩ (iniAt m c ⟨0, h⟩)
  | n + 1, h => ptF m c ⟨n + 1, h⟩ (if (n + 1) % 4 = 0 then iniAt m c ⟨n + 1, h⟩ else stAt c n (by omega))

/-- At the first point of a column. -/
theorem stAt_first (c : Dev nD) (t : Fin cfg0.N) (h0 : t.val % 4 = 0) :
    stAt m c t.val t.isLt = ptF m c t (iniAt m c t) := by
  obtain ⟨n, hn⟩ := t
  cases n with
  | zero => rfl
  | succ n => exact congrArg (ptF m c ⟨n + 1, hn⟩) (if_pos h0)

/-- At the other points. -/
theorem stAt_later (c : Dev nD) (t : Fin cfg0.N) (h0 : ¬t.val % 4 = 0) :
    stAt m c t.val t.isLt = ptF m c t (stAt m c (t.val - 1) (by omega)) := by
  obtain ⟨n, hn⟩ := t
  cases n with
  | zero => exact absurd (Nat.zero_mod _) h0
  | succ n => exact congrArg (ptF m c ⟨n + 1, hn⟩) (if_neg h0)

/-- The output block after point `t`; it is stored at the last point of a column. -/
def outAt (c : Dev nD) (t : Fin cfg0.N) : Vec F S144x256 .f32 :=
  head (iblk m c 2 t) (stAt m c t.val t.isLt).hh (stAt m c t.val t.isLt).c2 (iblk m c 5 t) (iblk m c 6 t)

/-- The scratch between points: anything before the first, then what the point before left. -/
def PhiS (c : Dev nD) : (n : ℕ) → n ≤ cfg0.N → sProp 𝕄
  | 0, _ => Pipeline.ΦA spec0 c
  | n + 1, hn => iprop(held3 c scM0_0 scM0_1 scM0_2 (stAt m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(held3 c scM0_0 scM0_1 scM0_2 (stAt m c n hn) ∗ (∃ r, prngReg c r)) := rfl

theorem PhiS_pos (c : Dev nD) (n : ℕ) (h : n ≤ cfg0.N) (hz : n ≠ 0) :
    PhiS m c n h = iprop(held3 c scM0_0 scM0_1 scM0_2 (stAt m c (n - 1) (by omega)) ∗ (∃ r, prngReg c r)) := by
  cases n with
  | zero => exact absurd rfl hz
  | succ n => rfl

/-- The pipeline's data: each input's buffer at its block, the output's at `outAt`, the scratch at `stAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The steps of a point, and its end: at the last point of a column the head is stored. -/
theorem tail_run (c : Dev nD) (t : Fin cfg0.N) (s : St F) (hs : stAt m c t.val t.isLt = ptF m c t s) :
    iprop(owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t)
        ∗ owns (c : Thread nD τ) (ms0_4 t) fullShare (iblk m c 4 t) ∗ owns (c : Thread nD τ) (ms0_5 t) fullShare (iblk m c 5 t)
        ∗ owns (c : Thread nD τ) (ms0_6 t) fullShare (iblk m c 6 t) ∗ (∃ d, owns (c : Thread nD τ) (ms0_7 t) fullShare ((dats m 0 c).before 7 t d))
        ∗ held3 c scM0_0 scM0_1 scM0_2 s ∗ (∃ r, prngReg c r) ∗ (dats m 0 c).owesAt () t.castSucc)
      ⊢ wp frame (wpE (defs₀ (F := F)) Variants.none c none) Set.univ
          (stepsThen (ms0_0 t) (ms0_1 t) (ms0_2 t) scM0_0 scM0_1 scM0_2
            (if k0_cond2 (grid0.coords t) = 1#1 then finish (ms0_2 t) (ms0_5 t) (ms0_6 t) (ms0_7 t) scM0_0 scM0_2 else pure ⟨⟩) 64 0 (by omega))
          (fun _ => bodyPost m c t) := by
  unfold bodyPost
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  iintro ⟨H0, H1, H2, H3, H4, H5, H6, H7, Hs, Hg, Ho⟩
  iapply steps_run (x := iblk m c 0 t) (wi := iblk m c 1 t) (wb := iblk m c 2 t) (s := s)
  unfold reads3
  isplitl [H0 H1 H2]
  · isplitl [H0]; · iexact H0
    isplitl [H1]; · iexact H1
    iexact H2
  isplitl [Hs]; · iexact Hs
  iintro ⟨⟨H0, H1, H2⟩, Hs⟩
  by_cases h1 : t.val % 4 = 3
  · have h0 : ¬t.val % 4 = 0 := by omega
    rw [if_pos ((hcond0_1 t).mpr h1)]
    rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
    icases H7 with ⟨%d7, H7⟩
    iapply finish_run (wb := iblk m c 2 t) (wf := iblk m c 5 t) (bf := iblk m c 6 t) (s := stAt m c t.val t.isLt)
    rw [hs]
    isplitl [H2]; · iexact H2
    isplitl [H5]; · iexact H5
    isplitl [H6]; · iexact H6
    isplitl [H7]; · iexists _; iexact H7
    isplitl [Hs]; · iexact Hs
    iintro ⟨H2, H5, H6, H7, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold outAt
    rw [hs]
    iexact H7
  · rw [if_neg (fun h => h1 ((hcond0_1 t).mp h))]
    rw [show (dats m 0 c).leavesExact 7 t = iprop(∃ d, owns (c : Thread nD τ) (ms0_7 t) fullShare ((dats m 0 c).before 7 t d)) from by
      by_cases h0 : t.val % 4 = 0
      · rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]]
    icases H7 with ⟨%d7, H7⟩
    rw [hs]
    sl_step
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6]
  by_cases h0 : t.val % 4 = 0
  · rw [body_first (h := (hcond0_0 t).mpr h0)]
    have hΦ : PhiS m c t.val (Nat.le_of_lt t.isLt) ⊢ iprop((∃ d, owns (c : Thread nD τ) scM0_0 fullShare d) ∗ (∃ d, owns (c : Thread nD τ) scM0_1 fullShare d) ∗ (∃ d, owns (c : Thread nD τ) scM0_2 fullShare d) ∗ (∃ r, prngReg c r)) := by
      by_cases hz : t.val = 0
      · rw [PhiS_zero m c _ _ hz, PhiA0_eq]
        iintro ⟨⟨H0, H1, H2⟩, Hg⟩
        isplitl [H0]; · iexact H0
        isplitl [H1]; · iexact H1
        isplitl [H2]; · iexact H2
        iexact Hg
      · rw [PhiS_pos m c _ _ hz]
        unfold held3
        iintro ⟨⟨H0, H1, H2⟩, Hg⟩
        isplitl [H0]; · iexists _; iexact H0
        isplitl [H1]; · iexists _; iexact H1
        isplitl [H2]; · iexists _; iexact H2
        iexact Hg
    rw [PhiS_castSucc m c t]
    iintro ⟨HΦ, Ho, ⟨%d0, H0⟩, ⟨%d1, H1⟩, ⟨%d2, H2⟩, ⟨%d3, H3⟩, ⟨%d4, H4⟩, ⟨%d5, H5⟩, ⟨%d6, H6⟩, H7⟩
    icases hΦ $$ HΦ with ⟨S0, S1, S2, Hg⟩
    rw [wp_bind]
    iapply init_run (v := iblk m c 3 t) (w := iblk m c 4 t)
    isplitl [H3]; · iexact H3
    isplitl [H4]; · iexact H4
    isplitl [S0]; · iexact S0
    isplitl [S1]; · iexact S1
    isplitl [S2]; · iexact S2
    iintro ⟨H3, H4, Hs⟩
    iapply tail_run m c t (iniAt m c t) (stAt_first m c t h0)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs]; · iexact Hs
    isplitl [Hg]; · iexact Hg
    iexact Ho
  · rw [body_later (h := fun h => h0 ((hcond0_0 t).mp h))]
    have hz : t.val ≠ 0 := fun h => h0 (by rw [h])
    rw [PhiS_castSucc m c t, PhiS_pos m c _ _ hz]
    iintro ⟨⟨Hs, Hg⟩, Ho, ⟨%d0, H0⟩, ⟨%d1, H1⟩, ⟨%d2, H2⟩, ⟨%d3, H3⟩, ⟨%d4, H4⟩, ⟨%d5, H5⟩, ⟨%d6, H6⟩, H7⟩
    iapply tail_run m c t _ (stAt_later m c t h0)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs]; · iexact Hs
    isplitl [Hg]; · iexact Hg
    iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  unfold held3
  iintro ⟨⟨H0, H1, H2⟩, Hg⟩
  isplitl [H0 H1 H2]
  · isplitl [H0]; · iexists _; iexact H0
    isplitl [H1]; · iexists _; iexact H1
    iexists _; iexact H2
  iexact Hg

set_option backward.isDefEq.respectTransparency.types false in
set_option maxHeartbeats 800000 in
/-- The run: the pipeline's arrays end at what `dats` says, and the rest as the lines after it leave them. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Steps

end
-- ==== Proof.KI.Blocks.lean ====
/- The blocks the kernel's grid points read, as parts of the arrays before the kernel, and the result array after it. -/
module

public import proofs.«01_k».proof.Proof.KI.Value
public import Idealize.ShloMosaic.Lib.ValueIdx
public import Idealize.ShloMosaic.Lib.Pipeline.Value

@[expose] public section

set_option maxRecDepth 16384

noncomputable section

namespace Cert.KernelIdeal.Blocks

open Idealize.ShloMosaic Idealize.ShloMosaic.TcCoe Idealize.ShloMosaic.ValueIdx
open Idealize.SL.Sem
open Cert.KernelIdeal.Gen Cert.KernelIdeal.Steps

variable {F : FTy → Type} [FloatOps F] (m : (ℓ : Loc nD τ sig) → Buf (Elt F) ℓ)

theorem N_eq : cfg0.N = 8 := N_0

/-- The inputs' block index: the time block, the sequence block. -/
theorem idx0 (t : Fin cfg0.N) : win0_0.index t 0 = t.val % 4 ∧ win0_0.index t 1 = t.val / 4 ∧ win0_0.index t 2 = 0 := by
  rcases fin_N0 t with rfl | rfl | rfl | rfl | rfl | rfl | rfl | rfl <;> decide

theorem idx1 (t : Fin cfg0.N) : win0_1.index t 0 = 0 ∧ win0_1.index t 1 = 0 := by
  rcases fin_N0 t with rfl | rfl | rfl | rfl | rfl | rfl | rfl | rfl <;> decide
theorem idx2 (t : Fin cfg0.N) : win0_2.index t 0 = 0 ∧ win0_2.index t 1 = 0 := by
  rcases fin_N0 t with rfl | rfl | rfl | rfl | rfl | rfl | rfl | rfl <;> decide
theorem idx3 (t : Fin cfg0.N) : win0_3.index t 0 = 0 ∧ win0_3.index t 1 = 0 := by
  rcases fin_N0 t with rfl | rfl | rfl | rfl | rfl | rfl | rfl | rfl <;> decide
theorem idx4 (t : Fin cfg0.N) : win0_4.index t 0 = 0 ∧ win0_4.index t 1 = 0 := by
  rcases fin_N0 t with rfl | rfl | rfl | rfl | rfl | rfl | rfl | rfl <;> decide
theorem idx5 (t : Fin cfg0.N) : win0_5.index t 0 = 0 ∧ win0_5.index t 1 = 0 := by
  rcases fin_N0 t with rfl | rfl | rfl | rfl | rfl | rfl | rfl | rfl <;> decide
theorem idx6 (t : Fin cfg0.N) : win0_6.index t 0 = 0 ∧ win0_6.index t 1 = 0 := by
  rcases fin_N0 t with rfl | rfl | rfl | rfl | rfl | rfl | rfl | rfl <;> decide
/-- The result's block index: the sequence block. -/
theorem idx7 (t : Fin cfg0.N) : win0_7.index t 0 = 0 ∧ win0_7.index t 1 = t.val / 4 := by
  rcases fin_N0 t with rfl | rfl | rfl | rfl | rfl | rfl | rfl | rfl <;> decide

/-- The inputs' block at an index. -/
theorem blk0 (c : Dev nD) (t : Fin cfg0.N) (k : Fin 64) (l : Fin 256) (i : Fin 144) (k' : Fin 256) (l' : Fin 512)
    (hk : k'.val = 64 * (t.val % 4) + k.val) (hl : l'.val = 256 * (t.val / 4) + l.val) :
    (iblk m c 0 t : Vec F S64x256x144 .bf16) (ix3 k l i) = (V m c main_v2 : Vec F S256x512x144 .bf16) (ix3 k' l' i) := by
  obtain ⟨e0, e1, e2⟩ := idx0 t
  show V m c main_v2 (((cfg0.win 0).blk t).view.emb (ix3 k l i)) = V m c main_v2 (ix3 k' l' i)
  congr 1
  funext a; apply Fin.ext
  match a with
  | ⟨0, _⟩ => show win0_0.index t 0 * 64 + 1 * k.val = k'.val; omega
  | ⟨1, _⟩ => show win0_0.index t 1 * 256 + 1 * l.val = l'.val; omega
  | ⟨2, _⟩ => show win0_0.index t 2 * 144 + 1 * i.val = i.val; omega

/-! The other inputs' blocks are their whole arrays. -/

theorem blk1 (c : Dev nD) (t : Fin cfg0.N) : iblk m c 1 t = V m c main_v6 := by
  obtain ⟨e0, e1⟩ := idx1 t
  funext j
  show V m c main_v6 (((cfg0.win 1).blk t).view.emb j) = V m c main_v6 j
  congr 1
  funext a; apply Fin.ext
  match a with
  | ⟨0, _⟩ => show win0_1.index t 0 * 224 + 1 * (j 0).val = (j 0).val; omega
  | ⟨1, _⟩ => show win0_1.index t 1 * 144 + 1 * (j 1).val = (j 1).val; omega

theorem blk2 (c : Dev nD) (t : Fin cfg0.N) : iblk m c 2 t = V m c main_v55 := by
  obtain ⟨e0, e1⟩ := idx2 t
  funext j
  show V m c main_v55 (((cfg0.win 2).blk t).view.emb j) = V m c main_v55 j
  congr 1
  funext a; apply Fin.ext
  match a with
  | ⟨0, _⟩ => show win0_2.index t 0 * 448 + 1 * (j 0).val = (j 0).val; omega
  | ⟨1, _⟩ => show win0_2.index t 1 * 120 + 1 * (j 1).val = (j 1).val; omega

theorem blk3 (c : Dev nD) (t : Fin cfg0.N) : iblk m c 3 t = V m c main_v60 := by
  obtain ⟨e0, e1⟩ := idx3 t
  funext j
  show V m c main_v60 (((cfg0.win 3).blk t).view.emb j) = V m c main_v60 j
  congr 1
  funext a; apply Fin.ext
  match a with
  | ⟨0, _⟩ => show win0_3.index t 0 * 120 + 1 * (j 0).val = (j 0).val; omega
  | ⟨1, _⟩ => show win0_3.index t 1 * 1 + 1 * (j 1).val = (j 1).val; omega

theorem blk4 (c : Dev nD) (t : Fin cfg0.N) : iblk m c 4 t = V m c main_v48 := by
  obtain ⟨e0, e1⟩ := idx4 t
  funext j
  show V m c main_v48 (((cfg0.win 4).blk t).view.emb j) = V m c main_v48 j
  congr 1
  funext a; apply Fin.ext
  match a with
  | ⟨0, _⟩ => show win0_4.index t 0 * 56 + 1 * (j 0).val = (j 0).val; omega
  | ⟨1, _⟩ => show win0_4.index t 1 * 1 + 1 * (j 1).val = (j 1).val; omega

theorem blk5 (c : Dev nD) (t : Fin cfg0.N) : iblk m c 5 t = V m c main_v61 := by
  obtain ⟨e0, e1⟩ := idx5 t
  funext j
  show V m c main_v61 (((cfg0.win 5).blk t).view.emb j) = V m c main_v61 j
  congr 1
  funext a; apply Fin.ext
  match a with
  | ⟨0, _⟩ => show win0_5.index t 0 * 144 + 1 * (j 0).val = (j 0).val; omega
  | ⟨1, _⟩ => show win0_5.index t 1 * 56 + 1 * (j 1).val = (j 1).val; omega

theorem blk6 (c : Dev nD) (t : Fin cfg0.N) : iblk m c 6 t = V m c main_v62 := by
  obtain ⟨e0, e1⟩ := idx6 t
  funext j
  show V m c main_v62 (((cfg0.win 6).blk t).view.emb j) = V m c main_v62 j
  congr 1
  funext a; apply Fin.ext
  match a with
  | ⟨0, _⟩ => show win0_6.index t 0 * 144 + 1 * (j 0).val = (j 0).val; omega
  | ⟨1, _⟩ => show win0_6.index t 1 * 1 + 1 * (j 1).val = (j 1).val; omega

/-- The last grid point of sequence `b`'s column. -/
def lastPt (b : Fin 512) : Fin cfg0.N := ⟨4 * (b.val / 256) + 3, by rw [N_eq]; omega⟩

/-- The result array: each column of the grid leaves its block at its last point. -/
def outT (c : Dev nD) : Vec F S144x512 .f32 := fun i => outAt m c (lastPt (i 1)) (ix2 (i 0) ⟨(i 1).val % 256, Nat.mod_lt _ (by omega)⟩)

theorem flushed7 (c : Dev nD) (t : Fin cfg0.N) (ht : t.val % 4 = 3) :
    (dats m 0 c).flushed 7 t = ((cfg0.win 7).blk t).view.read (Elt F) (outT m c) := by
  obtain ⟨e0, e1⟩ := idx7 t
  have hN : t.val < 8 := lt_of_lt_of_eq t.isLt N_eq
  show (cfg0.win 7).cut (grid0.coords t) ((dats m 0 c).after 7 t) = _
  rw [after0_7]
  funext j
  have h0 : (j 0).val < 144 := (j 0).isLt
  have h1 : (j 1).val < 256 := (j 1).isLt
  have k0 : (((cfg0.win 7).blk t).view.emb j 0).val = (j 0).val := by
    show win0_7.index t 0 * 144 + 1 * (j 0).val = (j 0).val; omega
  have k1 : (((cfg0.win 7).blk t).view.emb j 1).val = 256 * (t.val / 4) + (j 1).val := by
    show win0_7.index t 1 * 256 + 1 * (j 1).val = _; omega
  show outAt m c t _ = outT m c (((cfg0.win 7).blk t).view.emb j)
  unfold outT
  have kt : lastPt (((cfg0.win 7).blk t).view.emb j 1) = t := Fin.ext (by
    show 4 * ((((cfg0.win 7).blk t).view.emb j 1).val / 256) + 3 = t.val
    rw [k1]; omega)
  rw [kt]
  congr 1
  funext a; apply Fin.ext
  match a with
  | ⟨0, _⟩ => exact k0.symm
  | ⟨1, _⟩ => show (j 1).val = (((cfg0.win 7).blk t).view.emb j 1).val % 256; rw [k1]; omega

/-- An index of a point's block, in the result array. -/
theorem emb7 (t : Fin cfg0.N) (o : Fin 144) (l : Fin 256) (b : Fin 512) (hb : b.val = 256 * (t.val / 4) + l.val) :
    ((cfg0.win 7).blk t).view.emb (ix2 o l) = (ix2 o b : S144x512.Idx) := by
  obtain ⟨e0, e1⟩ := idx7 t
  funext a; apply Fin.ext
  match a with
  | ⟨0, _⟩ => show win0_7.index t 0 * 144 + 1 * o.val = o.val; omega
  | ⟨1, _⟩ => show win0_7.index t 1 * 256 + 1 * l.val = b.val; omega

theorem mem7 (t : Fin cfg0.N) (o : Fin 144) (l : Fin 256) (b : Fin 512) (hb : b.val = 256 * (t.val / 4) + l.val) :
    (ix2 o b : S144x512.Idx) ∈ ((cfg0.win 7).blk t).view.set := by
  have h := ((cfg0.win 7).blk t).view.emb_mem_set (ix2 o l)
  rwa [emb7 t o l b hb] at h

theorem cover7 (o : Fin 144) (b : Fin 512) : ∃ t : Fin cfg0.N, (cfg0.win 7).flush t = true ∧ (ix2 o b : S144x512.Idx) ∈ ((cfg0.win 7).blk t).view.set := by
  have e : (lastPt b).val = 4 * (b.val / 256) + 3 := rfl
  refine ⟨lastPt b, (flush0_7 _).mpr (by omega), mem7 _ o ⟨b.val % 256, Nat.mod_lt _ (by omega)⟩ b ?_⟩
  show b.val = 256 * ((lastPt b).val / 4) + b.val % 256
  omega

theorem final7 (c : Dev nD) : (dats m 0 c).arrAt 7 cfg0.N = outT m c := by
  refine (dats m 0 c).arrAt_eq_of_cover 7 (outT m c) (fun t hf => flushed7 m c t ((flush0_7 t).mp hf)) fun i => ?_
  have e : (i : S144x512.Idx) = ix2 (i 0) (i 1) := eq_ix2 i
  rw [e]
  exact cover7 (i 0) (i 1)

end Cert.KernelIdeal.Blocks

end
-- ==== Proof.KI.Column.lean ====
/- A column of the kernel's grid, one sequence at a time: 256 steps of the padded net, then the head. -/
module

public import proofs.«01_k».proof.Proof.KI.Lane
public import proofs.«01_k».proof.Proof.KI.Blocks

@[expose] public section

set_option maxRecDepth 16384

noncomputable section

namespace Cert.KernelIdeal.Steps

open Idealize.ShloMosaic Idealize.ShloMosaic.ValueIdx Facts₀ Facts
open Cert.Net (sk sk_eq Lane KWeights kC kH kg0 kg1 kstep Weights Holds After L0 L1 up)

/-! ## The states a column starts from -/

theorem hhInit_apply (v : Vec Ideal S120x1 .f32) (k : Fin 120) (l : Fin 256) : hhInit v (ix2 k l) = v (ix2 k 0) := by
  unfold hhInit
  rw [shapeCast_self, shapeCast_self, shapeCast_self]
  exact broadcastTo_apply v _ (ix2 k l) (ix2 k 0) fun ax => match ax with | ⟨0, _⟩ => rfl | ⟨1, _⟩ => rfl

theorem c1Init_apply (j : Fin 56) (l : Fin 256) : (c1Init : FVec Ideal S56x256 .f32) (ix2 j l) = 0 := by
  unfold c1Init
  rw [shapeCast_self]
  exact zero_bits

theorem c2Init_apply (v : Vec Ideal S56x1 .f32) (k : Fin 56) (l : Fin 256) : c2Init v (ix2 k l) = v (ix2 k 0) := by
  unfold c2Init
  rw [shapeCast_self, shapeCast_self, shapeCast_self]
  exact broadcastTo_apply v _ (ix2 k l) (ix2 k 0) fun ax => match ax with | ⟨0, _⟩ => rfl | ⟨1, _⟩ => rfl

/-- Every lane starts before the net's first step. -/
theorem init_after (W : Weights) (X : ℕ → Fin 144 → EReal) (v : Vec Ideal S120x1 .f32) (w : Vec Ideal S56x1 .f32) (l : Fin 256)
    (hv : ∀ k : Fin 120, v (ix2 k 0) = if k.val = 112 then 1 else 0)
    (hw : ∀ j : Fin 50, w (ix2 (up j) 0)
      = -(Ideal.div (Ideal.logistic (W.bi1 0 j + W.bh1 0 j) * Ideal.tanh (W.bi1 2 j + W.bh1 2 j)) (Ideal.logistic (W.bi1 1 j + W.bh1 1 j)))) :
    After W X 0 (laneOf (initF v w) l) := by
  refine ⟨?_, fun j => ?_, fun j => ?_, fun j => ?_, fun j => ?_⟩
  · exact (hhInit_apply v _ l).trans ((hv _).trans (if_pos rfl))
  · exact (hhInit_apply v _ l).trans ((hv _).trans (if_neg (by show ¬ j.val = 112; omega)))
  · exact c1Init_apply (up j) l
  · rw [if_pos rfl]
    exact (hhInit_apply v _ l).trans ((hv _).trans (if_neg (by show ¬ 56 + j.val = 112; omega)))
  · rw [if_pos rfl]
    exact (c2Init_apply w _ l).trans (hw j)

/-! ## The steps -/

/-- The inputs of one time step at an index. -/
theorem xRow_apply (x : Vec Ideal S64x256x144 .bf16) (k : ℕ) (hk : k < 64) (l : Fin 256) (i : Fin 144) :
    xRow x k hk (ix3 0 l i) = x (ix3 ⟨k, hk⟩ l i) := by
  refine congrArg x (funext fun a => Fin.ext ?_)
  match a with
  | ⟨0, _⟩ => show k + 1 * 0 = k; omega
  | ⟨1, _⟩ => show 0 + 1 * l.val = l.val; omega
  | ⟨2, _⟩ => show 0 + 1 * i.val = i.val; omega

section
variable {W : Weights} {X : ℕ → Fin 144 → EReal} {wi : Vec Ideal S224x144 .bf16} {wb : Vec Ideal S448x120 .f32}

/-- `n` steps of a block from step `k` on. -/
theorem steps_after (H : Holds (kw wi wb) W) (hb : ∀ j, W.bi1 1 j + W.bh1 1 j ≠ ⊥) (x : Vec Ideal S64x256x144 .bf16) (l : Fin 256) (n0 : ℕ)
    (hx : ∀ (k : Fin 64) i, x (ix3 k l i) = X (n0 + k.val) i) :
    ∀ (n k : ℕ) (h : k + n ≤ 64) (s : St Ideal), After W X (n0 + k) (laneOf s l) → After W X (n0 + (k + n)) (laneOf (stepsF x wi wb n k h s) l)
  | 0, k, _, s, A => A
  | n + 1, k, h, s, A => by
    have A' : After W X (n0 + (k + 1)) (laneOf (stepF wi wb (xRow x k (by omega)) s) l) := by
      rw [step_lane]
      refine Cert.Net.kstep_after H hb A _ fun q j => ?_
      refine Finset.sum_congr rfl fun i _ => congrArg (_ * ·) ?_
      rw [xRow_apply, hx]
    have := steps_after H hb x l n0 hx n (k + 1) (by omega) _ A'
    rw [show k + (n + 1) = k + 1 + n by omega]
    exact this

end

/-! ## The head -/

theorem gbF_apply (wb : Vec Ideal S448x120 .f32) (hh : Vec Ideal S120x256 .f32) (r : Fin 448) (l : Fin 256) :
    gbF wb hh (ix2 r l) = ∑ k, wb (ix2 r k) * hh (ix2 k l) := by
  unfold gbF
  rw [shapeCast_self]
  refine (Ideal.matmul_plain_apply (M := 448) (K := 120) (N := 256) (φ₁ := .f32) (φ₂ := .f32) none wb hh _ r l).trans ?_
  rw [show (constant S448x256 .f32 0x00000000#32 : FVec Ideal S448x256 .f32) (ix2 r l) = 0 from zero_bits, zero_add]

theorem g1F_apply (wi : Vec Ideal S224x144 .bf16) (wb : Vec Ideal S448x120 .f32) (s : St Ideal) (q : Fin 4)
    (j : Fin 56) (l : Fin 256) : g1F wb s.hh (ix2 (row q j) l) = kg1 (kw wi wb) (laneOf s l) q j := by
  unfold g1F
  rw [slice2_axis0_apply 224 _ _ _ _ (rowB q j) rfl, gbF_apply]
  rfl

theorem cNewF_apply (g : FVec Ideal S224x256 .f32) (c : Vec Ideal S56x256 .f32) (j : Fin 56) (l : Fin 256) :
    cNewF g c (ix2 j l) = kC (fun q j => g (ix2 (row q j) l)) (fun j => c (ix2 j l)) j := by
  unfold cNewF
  rw [addf_apply, mulf_apply, mulf_apply, sg_apply, sg_apply, tanh_apply, slice2_axis0_apply 56 _ _ j _ (row 1 j) rfl,
    slice2_axis0_apply 0 _ _ j _ (row 0 j) rfl, slice2_axis0_apply 112 _ _ j _ (row 2 j) rfl]
  rfl

theorem hNewF_apply (g : FVec Ideal S224x256 .f32) (c : Vec Ideal S56x256 .f32) (j : Fin 56) (l : Fin 256) :
    hNewF g c (ix2 j l) = kH (fun q j => g (ix2 (row q j) l)) (fun j => c (ix2 j l)) j := by
  unfold hNewF
  rw [mulf_apply, sg_apply, tanh_apply, slice2_axis0_apply 168 _ _ j _ (row 3 j) rfl, cNewF_apply]
  rfl

/-- The head at an index. -/
theorem head_apply (wi : Vec Ideal S224x144 .bf16) (wb : Vec Ideal S448x120 .f32) (s : St Ideal) (wf : Vec Ideal S144x56 .f32) (bf : Vec Ideal S144x1 .f32)
    (o : Fin 144) (l : Fin 256) : head wb s.hh s.c2 wf bf (ix2 o l)
      = (∑ j, wf (ix2 o j) * kH (kg1 (kw wi wb) (laneOf s l)) (laneOf s l).c2 j) + bf (ix2 o 0) := by
  unfold head
  rw [addf_apply, shapeCast_self, shapeCast_self]
  rw [show broadcastTo S144x256 bf broadcasts_S144x1_S144x256 (ix2 o l) = bf (ix2 o 0) from
    broadcastTo_apply bf _ (ix2 o l) (ix2 o 0) fun ax => match ax with | ⟨0, _⟩ => rfl | ⟨1, _⟩ => rfl]
  refine congrArg (· + _) ?_
  refine (Ideal.matmul_plain_apply (M := 144) (K := 56) (N := 256) (φ₁ := .f32) (φ₂ := .f32) none wf (hNewF (g1F wb s.hh) s.c2) _ o l).trans ?_
  rw [show (constant S144x256 .f32 0x00000000#32 : FVec Ideal S144x256 .f32) (ix2 o l) = 0 from zero_bits, zero_add]
  refine Finset.sum_congr rfl fun j _ => congrArg (_ * ·) ?_
  rw [hNewF_apply]
  refine congrArg (fun g => kH g _ j) ?_
  funext q j
  exact g1F_apply wi wb s q j l

end Cert.KernelIdeal.Steps

namespace Cert.KernelIdeal.Blocks

open Idealize.ShloMosaic Idealize.ShloMosaic.TcCoe Idealize.ShloMosaic.ValueIdx
open Idealize.SL.Sem
open Cert.KernelIdeal.Gen Cert.KernelIdeal.Steps
open Cert.Net (Weights Holds After L0 L1 up)

variable (m : (ℓ : Loc nD τ sig) → Buf (Elt Ideal) ℓ) (c : Dev nD) {W : Weights} (X : Fin 512 → ℕ → Fin 144 → EReal)

/-- What the arrays before the kernel must hold for the net of weights `W` and inputs `X`. -/
structure Loaded (W : Weights) (X : Fin 512 → ℕ → Fin 144 → EReal) (wf : Fin 144 → Fin 50 → EReal) (bf : Fin 144 → EReal) : Prop where
  x : ∀ (t : Fin 256) b i, (V m c main_v2 : Vec Ideal S256x512x144 .bf16) (ix3 t b i) = X b t.val i
  w : Holds (kw (V m c main_v6) (V m c main_v55)) W
  hh : ∀ k : Fin 120, (V m c main_v60 : Vec Ideal S120x1 .f32) (ix2 k 0) = (if k.val = 112 then 1 else 0 : EReal)
  c2 : ∀ j : Fin 50, (V m c main_v48 : Vec Ideal S56x1 .f32) (ix2 (up j) 0)
      = -(Ideal.div (Ideal.logistic (W.bi1 0 j + W.bh1 0 j) * Ideal.tanh (W.bi1 2 j + W.bh1 2 j)) (Ideal.logistic (W.bi1 1 j + W.bh1 1 j)))
  wf : ∀ o (k : Fin 56), (V m c main_v61 : Vec Ideal S144x56 .f32) (ix2 o k) = (if hk : k.val < 50 then wf o ⟨k.val, hk⟩ else 0 : EReal)
  bf : ∀ o, (V m c main_v62 : Vec Ideal S144x1 .f32) (ix2 o 0) = bf o
  gate : ∀ j, W.bi1 1 j + W.bh1 1 j ≠ ⊥

variable {m c X} {wf : Fin 144 → Fin 50 → EReal} {bf : Fin 144 → EReal} (D : Loaded m c W X wf bf)
include D

/-- One grid point for one sequence: 64 steps. -/
theorem pt_after (t : Fin cfg0.N) (l : Fin 256) (b : Fin 512) (hl : b.val = 256 * (t.val / 4) + l.val) (s : St Ideal)
    (A : After W (X b) (64 * (t.val % 4)) (laneOf s l)) : After W (X b) (64 * (t.val % 4) + 64) (laneOf (ptF m c t s) l) := by
  have := steps_after (W := W) (X := X b) (wi := V m c main_v6) (wb := V m c main_v55) D.w D.gate (iblk m c 0 t) l (64 * (t.val % 4))
    (fun k i => by
      have hN : t.val < 8 := lt_of_lt_of_eq t.isLt N_eq
      rw [blk0 m c t k l i ⟨64 * (t.val % 4) + k.val, by omega⟩ b rfl hl, D.x]) 64 0 (by omega) s A
  unfold ptF
  rw [blk1, blk2]
  exact this

/-- The states after each grid point. -/
theorem st_after : ∀ (n : ℕ) (hn : n < cfg0.N) (l : Fin 256) (b : Fin 512), b.val = 256 * (n / 4) + l.val →
    After W (X b) (64 * (n % 4) + 64) (laneOf (stAt m c n hn) l) := by
  intro n
  induction n with
  | zero =>
    intro hn l b hl
    rw [stAt_first m c ⟨0, hn⟩ rfl]
    refine pt_after D ⟨0, hn⟩ l b hl _ ?_
    unfold iniAt
    rw [blk3, blk4]
    exact init_after W (X b) _ _ l D.hh D.c2
  | succ n ih =>
    intro hn l b hl
    by_cases h0 : (n + 1) % 4 = 0
    · rw [stAt_first m c ⟨n + 1, hn⟩ h0]
      refine pt_after D ⟨n + 1, hn⟩ l b hl _ ?_
      rw [show 64 * ((⟨n + 1, hn⟩ : Fin cfg0.N).val % 4) = 0 from by show 64 * ((n + 1) % 4) = 0; omega]
      unfold iniAt
      rw [blk3, blk4]
      exact init_after W (X b) _ _ l D.hh D.c2
    · rw [stAt_later m c ⟨n + 1, hn⟩ h0]
      refine pt_after D ⟨n + 1, hn⟩ l b hl _ ?_
      have := ih (by omega) l b (by omega)
      rw [show 64 * ((⟨n + 1, hn⟩ : Fin cfg0.N).val % 4) = 64 * (n % 4) + 64 from by show 64 * ((n + 1) % 4) = _; omega]
      exact this

/-- The result array: the head of the second layer's hidden state after all 256 steps. -/
theorem outT_apply (o : Fin 144) (b : Fin 512) : outT m c (ix2 o b) = (∑ j, (L1 W (X b) 256).1 j * wf o j) + bf o := by
  have A := st_after D (lastPt b).val (lastPt b).isLt ⟨b.val % 256, Nat.mod_lt _ (by omega)⟩ b
    (by show b.val = 256 * ((4 * (b.val / 256) + 3) / 4) + b.val % 256; omega)
  rw [show 64 * ((lastPt b).val % 4) + 64 = 255 + 1 from by show 64 * ((4 * (b.val / 256) + 3) % 4) + 64 = 255 + 1; omega] at A
  show outAt m c (lastPt b) (ix2 o ⟨b.val % 256, _⟩) = _
  unfold outAt
  rw [head_apply (V m c main_v6), blk2, blk5, blk6, D.bf]
  refine congrArg (· + _) ?_
  refine (Cert.Net.sum_56 _ (wf o) _ (fun k => D.wf o k)).trans ?_
  refine Finset.sum_congr rfl fun j _ => congrArg (· * _) ?_
  exact Cert.Net.last_after D.w A j

end Cert.KernelIdeal.Blocks

end
-- ==== Proof.KI.Host.lean ====
/- The arrays the host prepares for the kernel, as functions of the arguments. -/
module

public import proofs.«01_k».proof.Proof.Gen.KernelIdeal.Frame.Runs
public import Idealize.ShloMosaic.Lib.StableHlo.RunRead

@[expose] public section

set_option maxRecDepth 16384

noncomputable section

namespace Cert.KernelIdeal.Host

open Idealize.ShloMosaic Idealize.ShloMosaic.TcCoe
open Idealize.SL.Sem Cert.KernelIdeal.Facts₀ Cert.KernelIdeal.Facts
open Cert.KernelIdeal.Gen (V V0)

variable {F : FTy → Type} [FloatOps F]

/-- The zero the host pads with. -/
def zf : Vec F S_ .f32 := sitofp .f32 (constantI S_ 32 0#32)

/-- The inputs, time first. -/
def hx (x : Vec F S512x256x16x9 .f32) : Vec F S256x512x144 .bf16 :=
  transpose S256x512x144 [1, 0, 2] (truncf .bf16 (shapeCast S512x256x144 x shapeCasts_S512x256x16x9_S512x256x144) bitsLt_bf16_f32) transposes_S512x256x144_S256x512x144_1_0_2

/-- The first layer's input weights, 56 rows a gate. -/
def hwi (x : Vec F S200x144 .f32) : Vec F S224x144 .bf16 :=
  truncf .bf16 (shapeCast S224x144 (pad S4x56x144 ![0, 0, 0] ![0, 6, 0] ![0, 0, 0] (shapeCast S4x50x144 x shapeCasts_S200x144_S4x50x144) zf
    pads_S4x50x144_S4x56x144_000_060_000 h_S_) shapeCasts_S4x56x144_S224x144) bitsLt_bf16_f32

/-- A 200-by-50 weight matrix, 56 rows a gate and 56 columns. -/
def hw56 (x : Vec F S200x50 .f32) : Vec F S224x56 .f32 :=
  shapeCast S224x56 (pad S4x56x56 ![0, 0, 0] ![0, 6, 0] ![0, 0, 0] (shapeCast S4x50x56
    (pad S200x56 ![0, 0] ![0, 6] ![0, 0] x zf pads_S200x50_S200x56_000_060 h_S_) shapeCasts_S200x56_S4x50x56) zf
    pads_S4x50x56_S4x56x56_000_060_000 h_S_) shapeCasts_S4x56x56_S224x56

/-- The two biases' sum, 56 rows a gate. -/
def hb (x y : Vec F S200 .f32) : Vec F S224x1 .f32 :=
  shapeCast S224x1 (pad S4x56 ![0, 0] ![0, 6] ![0, 0] (shapeCast S4x50 (addf x y : Vec F S200 .f32) shapeCasts_S200_S4x50) zf
    pads_S4x50_S4x56_000_060 h_S_) shapeCasts_S4x56_S224x1

/-- One, at every unit. -/
def ones50 : Vec F S50 .f32 := broadcastInDim S50 ![] bcast_S_S50 (constant S_ .f32 0x3F800000#32)

/-- The host's sigmoid. -/
def hsig (x : Vec F S50 .f32) : Vec F S50 .f32 := Host.divf ones50 (addf ones50 (Host.exp (Host.negf x)))

/-- The second layer's starting cell state. -/
def hc (b : Vec F S200 .f32) : Vec F S50 .f32 :=
  Host.negf (Host.divf (mulf (hsig (extractStridedSlice S50 ![0] b slices_S200_S50_0)) (Host.tanh (extractStridedSlice S50 ![100] b slices_S200_S50_100)))
    (hsig (extractStridedSlice S50 ![50] b slices_S200_S50_50)))

/-- It again, as a padded column. -/
def hc2 (b : Vec F S200 .f32) : Vec F S56x1 .f32 :=
  shapeCast S56x1 (pad S56 ![0] ![6] ![0] (hc b) zf pads_S50_S56_060 h_S_) shapeCasts_S56_S56x1

/-- Both layers' recurrent weights: the first layer's on its own hidden rows; the second layer's on both. -/
def hrec (a b d : Vec F S224x56 .f32) : Vec F S448x112 .f32 :=
  concatenate S448x112 0 [⟨S224x112, (concatenate S224x112 1 [⟨S224x56, a⟩,
      ⟨S224x56, (broadcastInDim S224x56 ![] bcast_S_S224x56 (constant S_ .f32 0x00000000#32) : Vec F S224x56 .f32)⟩] concatenates_S224x56_S224x56_S224x112_d1 : Vec F S224x112 .f32)⟩,
    ⟨S224x112, (concatenate S224x112 1 [⟨S224x56, b⟩, ⟨S224x56, d⟩] concatenates_S224x56_S224x56_S224x112_d1 : Vec F S224x112 .f32)⟩] concatenates_S224x112_S224x112_S448x112_d0

/-- Both layers' biases in one column. -/
def hbias (p q : Vec F S224x1 .f32) : Vec F S448x1 .f32 := concatenate S448x1 0 [⟨S224x1, p⟩, ⟨S224x1, q⟩] concatenates_S224x1_S224x1_S448x1_d0

/-- Both layers' recurrent weights and biases in one matrix. -/
def hbig (a b d : Vec F S224x56 .f32) (p q : Vec F S224x1 .f32) : Vec F S448x120 .f32 :=
  concatenate S448x120 1 [⟨S448x112, hrec a b d⟩, ⟨S448x1, hbias p q⟩,
    ⟨S448x7, (broadcastInDim S448x7 ![] bcast_S_S448x7 (constant S_ .f32 0x00000000#32) : Vec F S448x7 .f32)⟩] concatenates_S448x112_S448x1_S448x7_S448x120_d1

/-- The starting column of the hidden states: zero, and one at the constant row. -/
def hh0 : Vec F S120x1 .f32 :=
  Host.scatter scatter_S120x1_S2_S__n_01_01_0 (fun _ b => b) (broadcastInDim S120x1 ![] bcast_S_S120x1 (constant S_ .f32 0x00000000#32) : Vec F S120x1 .f32)
    (concatenate S2 0 [⟨S1, broadcastInDim S1 ![] bcast_S_S1 (constantI S_ 32 112#32)⟩, ⟨S1, broadcastInDim S1 ![] bcast_S_S1 (constantI S_ 32 0#32)⟩] concatenates_S1_S1_S2_d0)
    (constant S_ .f32 0x3F800000#32)

/-- The head's weights, padded. -/
def hwf (x : Vec F S144x50 .f32) : Vec F S144x56 .f32 := pad S144x56 ![0, 0] ![0, 6] ![0, 0] x zf pads_S144x50_S144x56_000_060 h_S_

/-- The head's bias as a column. -/
def hbf (x : Vec F S144 .f32) : Vec F S144x1 .f32 := shapeCast S144x1 x shapeCasts_S144_S144x1

variable (m : (ℓ : Loc nD τ sig) → Buf (Elt F) ℓ) (c : Dev nD)

theorem V_v2 : V m c main_v2 = hx (m ((c : Thread nD τ).loc main_arg0)) := by
  unfold V V0
  simp only [List.flatten_cons, List.flatten_nil, List.append_nil, List.cons_append, List.nil_append]
  after_reads_simp
  rfl

theorem V_v6 : V m c main_v6 = hwi (m ((c : Thread nD τ).loc main_arg1)) := by
  unfold V V0
  simp only [List.flatten_cons, List.flatten_nil, List.append_nil, List.cons_append, List.nil_append]
  after_reads_simp
  simp only [StableHlo.TRef.ofBuf, StableHlo.TRef.toBuf, cast_eq]
  rfl

theorem V_v61 : V m c main_v61 = hwf (m ((c : Thread nD τ).loc main_arg9)) := by
  unfold V V0
  simp only [List.flatten_cons, List.flatten_nil, List.append_nil, List.cons_append, List.nil_append]
  after_reads_simp
  simp only [StableHlo.TRef.ofBuf, StableHlo.TRef.toBuf, cast_eq]
  rfl

theorem V_v62 : V m c main_v62 = hbf (m ((c : Thread nD τ).loc main_arg10)) := by
  unfold V V0
  simp only [List.flatten_cons, List.flatten_nil, List.append_nil, List.cons_append, List.nil_append]
  after_reads_simp
  rfl

theorem V_v60 : V m c main_v60 = (hh0 : Vec F S120x1 .f32) := by
  unfold V V0
  simp only [List.flatten_cons, List.flatten_nil, List.append_nil, List.cons_append, List.nil_append]
  after_reads_simp
  rfl

theorem V_v48 : V m c main_v48 = hc2 (addf (m ((c : Thread nD τ).loc main_arg7) : Vec F S200 .f32) (m ((c : Thread nD τ).loc main_arg8) : Vec F S200 .f32)) := by
  unfold V V0
  simp only [List.flatten_cons, List.flatten_nil, List.append_nil, List.cons_append, List.nil_append]
  after_reads_simp
  simp only [StableHlo.TRef.ofBuf, StableHlo.TRef.toBuf, cast_eq]
  rfl

/-- Two joined blocks agree when the blocks do. -/
theorem join2 {s₁ s₂ t : Shape} {d : Fin t.rank} {a a' : Vec F s₁ .f32} {b b' : Vec F s₂ .f32} (h) (ha : a = a') (hb : b = b') :
    concatenate t d [⟨s₁, a⟩, ⟨s₂, b⟩] h = concatenate t d [⟨s₁, a'⟩, ⟨s₂, b'⟩] h := by
  subst ha; subst hb; rfl

/-- Three joined blocks agree when the blocks do. -/
theorem join3 {s₁ s₂ s₃ t : Shape} {d : Fin t.rank} {a a' : Vec F s₁ .f32} {b b' : Vec F s₂ .f32} {e e' : Vec F s₃ .f32} (h)
    (ha : a = a') (hb : b = b') (he : e = e') :
    concatenate t d [⟨s₁, a⟩, ⟨s₂, b⟩, ⟨s₃, e⟩] h = concatenate t d [⟨s₁, a'⟩, ⟨s₂, b'⟩, ⟨s₃, e'⟩] h := by
  subst ha; subst hb; subst he; rfl

theorem V_v55 : V m c main_v55 = hbig (hw56 (m ((c : Thread nD τ).loc main_arg2))) (hw56 (m ((c : Thread nD τ).loc main_arg5))) (hw56 (m ((c : Thread nD τ).loc main_arg6)))
    (hb (m ((c : Thread nD τ).loc main_arg3)) (m ((c : Thread nD τ).loc main_arg4))) (hb (m ((c : Thread nD τ).loc main_arg7)) (m ((c : Thread nD τ).loc main_arg8))) := by
  unfold V V0
  simp only [List.flatten_cons, List.flatten_nil, List.append_nil, List.cons_append, List.nil_append]
  after_reads_simp
  refine join3 _ ?_ ?_ ?_
  · show StableHlo.upto _ _ 81 (Proc.devRef .tc main_v52) = _
    after_reads_simp
    refine join2 _ ?_ ?_
    · after_reads_simp
      refine join2 _ ?_ ?_
      · after_reads_simp
        simp only [StableHlo.TRef.ofBuf, StableHlo.TRef.toBuf, cast_eq]
        rfl
      · after_reads_simp
    · after_reads_simp
      refine join2 _ ?_ ?_
      · after_reads_simp
        simp only [StableHlo.TRef.ofBuf, StableHlo.TRef.toBuf, cast_eq]
        rfl
      · after_reads_simp
        simp only [StableHlo.TRef.ofBuf, StableHlo.TRef.toBuf, cast_eq]
        rfl
  · show StableHlo.upto _ _ 81 (Proc.devRef .tc main_v53) = _
    after_reads_simp
    refine join2 _ ?_ ?_
    · after_reads_simp
      simp only [StableHlo.TRef.ofBuf, StableHlo.TRef.toBuf, cast_eq]
      rfl
    · after_reads_simp
      simp only [StableHlo.TRef.ofBuf, StableHlo.TRef.toBuf, cast_eq]
      rfl
  · show StableHlo.upto _ _ 81 (Proc.devRef .tc main_v54) = _
    after_reads_simp

end Cert.KernelIdeal.Host

end
-- ==== Proof.KI.HostAt.lean ====
/- The arrays the host prepares for the kernel, entry by entry over the extended reals. -/
module

public import proofs.«01_k».proof.Proof.Args
public import proofs.«01_k».proof.Proof.KI.Host
public import proofs.«01_k».proof.Proof.KI.Lane
public import Idealize.ShloMosaic.Lib.KernelVsHost
public import Idealize.ShloMosaic.Lib.IdealHost
public import Idealize.ShloMosaic.Lib.Pipeline.Value
public import Idealize.ShloMosaic.Lib.Pointwise.SelectCore
public import Idealize.ShloMosaic.Lib.Routing.OpsOne

@[expose] public section

set_option maxRecDepth 16384

noncomputable section

namespace Cert.KernelIdeal.Host

open Idealize.ShloMosaic hiding ix0 ix1 ix2 ix3
open Idealize.ShloMosaic.ValueIdx
open Cert.KernelIdeal.Facts₀ Cert.KernelIdeal.Facts
open Cert.KernelIdeal.Steps (row rowA rowB kw zero_bits)
open Cert.Net (up pos)

theorem one_bits : Ideal.ofBits .f32 0x3F800000#32 = 1 := by
  simp [Ideal.ofBits, Ideal.ieee, -EReal.coe_mul]; norm_num

theorem zf_apply (i : S_.Idx) : (zf : Vec Ideal S_ .f32) i = 0 := sitofp_zero (φ := .f32)

/-- The inputs, time first. -/
theorem hx_apply (x : Vec Ideal S512x256x16x9 .f32) (t : Fin 256) (b : Fin 512) (i : Fin 144) :
    hx x (ix3 t b i) = (shapeCast S512x256x144 x shapeCasts_S512x256x16x9_S512x256x144 : Vec Ideal S512x256x144 .f32) (ix3 b t i) := by
  unfold hx
  refine (transpose_apply _ _ _ (ix3 t b i) (ix3 b t i) fun a => match a with | ⟨0, _⟩ => rfl | ⟨1, _⟩ => rfl | ⟨2, _⟩ => rfl).trans ?_
  rfl

theorem hwi_apply (x : Vec Ideal S200x144 .f32) (q : Fin 4) (j : Fin 50) (i : Fin 144) :
    hwi x (ix2 (row q (up j)) i) = x (ix2 (pos q j) i) := by
  unfold hwi
  rw [truncf_apply]
  refine (shapeCast_apply _ _ (ix2 (row q (up j)) i) (ix3 q (up j) i) ?_).trans ?_
  · rw [Shape.rowMajor_val_two, Shape.rowMajor_val_three]
    show (q.val * 56 + j.val) * 144 + i.val = (56 * q.val + j.val) * 144 + i.val
    omega
  refine (pad_apply_of_inside _ _ _ _ _ _ _ (ix3 q (up j) i) (ix3 q j i) fun a => ?_).trans ?_
  · match a with
    | ⟨0, _⟩ => show q.val = 0 + q.val * (0 + 1); omega
    | ⟨1, _⟩ => show j.val = 0 + j.val * (0 + 1); omega
    | ⟨2, _⟩ => show i.val = 0 + i.val * (0 + 1); omega
  refine shapeCast_apply _ _ (ix3 q j i) (ix2 (pos q j) i) ?_
  rw [Shape.rowMajor_val_two, Shape.rowMajor_val_three]
  show (50 * q.val + j.val) * 144 + i.val = (q.val * 50 + j.val) * 144 + i.val
  omega

theorem hw56_apply (x : Vec Ideal S200x50 .f32) (q : Fin 4) (j : Fin 50) (k : Fin 56) :
    hw56 x (ix2 (row q (up j)) k) = if h : k.val < 50 then x (ix2 (pos q j) ⟨k.val, h⟩) else 0 := by
  unfold hw56
  refine (shapeCast_apply _ _ (ix2 (row q (up j)) k) (ix3 q (up j) k) ?_).trans ?_
  · rw [Shape.rowMajor_val_two, Shape.rowMajor_val_three]
    show (q.val * 56 + j.val) * 56 + k.val = (56 * q.val + j.val) * 56 + k.val
    omega
  refine (pad_apply_of_inside _ _ _ _ _ _ _ (ix3 q (up j) k) (ix3 q j k) fun a => ?_).trans ?_
  · match a with
    | ⟨0, _⟩ => show q.val = 0 + q.val * (0 + 1); omega
    | ⟨1, _⟩ => show j.val = 0 + j.val * (0 + 1); omega
    | ⟨2, _⟩ => show k.val = 0 + k.val * (0 + 1); omega
  refine (shapeCast_apply _ _ (ix3 q j k) (ix2 (pos q j) k) ?_).trans ?_
  · rw [Shape.rowMajor_val_two, Shape.rowMajor_val_three]
    show (50 * q.val + j.val) * 56 + k.val = (q.val * 50 + j.val) * 56 + k.val
    omega
  by_cases h : k.val < 50
  · rw [dif_pos h]
    refine pad_apply_of_inside _ _ _ _ _ _ _ (ix2 (pos q j) k) (ix2 (pos q j) ⟨k.val, h⟩) fun a => ?_
    match a with
    | ⟨0, _⟩ => show 50 * q.val + j.val = 0 + (50 * q.val + j.val) * (0 + 1); omega
    | ⟨1, _⟩ => show k.val = 0 + k.val * (0 + 1); omega
  · rw [dif_neg h]
    refine (pad_apply_of_not_inside _ _ _ _ _ _ _ (ix2 (pos q j) k) 1 fun hh => ?_).trans (zf_apply _)
    have h3 : (k.val - 0) / (0 + 1) < 50 := hh.2.2
    omega

theorem hb_apply (x y : Vec Ideal S200 .f32) (q : Fin 4) (j : Fin 50) :
    hb x y (ix2 (row q (up j)) 0) = x (ix1 (pos q j)) + y (ix1 (pos q j)) := by
  unfold hb
  refine (shapeCast_apply _ _ (ix2 (row q (up j)) 0) (ix2 q (up j)) ?_).trans ?_
  · rw [Shape.rowMajor_val_two, Shape.rowMajor_val_two]
    show q.val * 56 + j.val = (56 * q.val + j.val) * 1 + 0
    omega
  refine (pad_apply_of_inside _ _ _ _ _ _ _ (ix2 q (up j)) (ix2 q j) fun a => ?_).trans ?_
  · match a with
    | ⟨0, _⟩ => show q.val = 0 + q.val * (0 + 1); omega
    | ⟨1, _⟩ => show j.val = 0 + j.val * (0 + 1); omega
  refine (shapeCast_apply _ _ (ix2 q j) (ix1 (pos q j)) ?_).trans rfl
  rw [Shape.rowMajor_val_one, Shape.rowMajor_val_two]
  show 50 * q.val + j.val = q.val * 50 + j.val
  omega

/-- The host's sigmoid is the logistic function. -/
theorem hsig_apply (x : Vec Ideal S50 .f32) (i : S50.Idx) : hsig x i = Ideal.logistic (x i) := by
  show Ideal.div (Ideal.ofBits .f32 0x3F800000#32) (Ideal.ofBits .f32 0x3F800000#32 + Ideal.exp (-(x i))) = _
  rw [one_bits]
  rfl

theorem hc2_apply (b : Vec Ideal S200 .f32) (j : Fin 50) : hc2 b (ix2 (up j) 0)
    = -(Ideal.div (Ideal.logistic (b (ix1 (pos 0 j))) * Ideal.tanh (b (ix1 (pos 2 j)))) (Ideal.logistic (b (ix1 (pos 1 j))))) := by
  unfold hc2
  refine (shapeCast_apply _ _ (ix2 (up j) 0) (ix1 (up j)) ?_).trans ?_
  · rw [Shape.rowMajor_val_one, Shape.rowMajor_val_two]
    show j.val = j.val * 1 + 0
    omega
  refine (pad_apply_of_inside _ _ _ _ _ _ _ (ix1 (up j)) (ix1 j) fun a => ?_).trans ?_
  · match a with
    | ⟨0, _⟩ => show j.val = 0 + j.val * (0 + 1); omega
  have s0 : (extractStridedSlice S50 ![0] b slices_S200_S50_0 : Vec Ideal S50 .f32) (ix1 j) = b (ix1 (pos 0 j)) :=
    extractStridedSlice_apply _ _ _ _ _ fun a => match a with | ⟨0, _⟩ => rfl
  have s1 : (extractStridedSlice S50 ![50] b slices_S200_S50_50 : Vec Ideal S50 .f32) (ix1 j) = b (ix1 (pos 1 j)) :=
    extractStridedSlice_apply _ _ _ _ _ fun a => match a with | ⟨0, _⟩ => rfl
  have s2 : (extractStridedSlice S50 ![100] b slices_S200_S50_100 : Vec Ideal S50 .f32) (ix1 j) = b (ix1 (pos 2 j)) :=
    extractStridedSlice_apply _ _ _ _ _ fun a => match a with | ⟨0, _⟩ => rfl
  show -(Ideal.div (hsig (extractStridedSlice S50 ![0] b slices_S200_S50_0) (ix1 j) * Ideal.tanh ((extractStridedSlice S50 ![100] b slices_S200_S50_100 : Vec Ideal S50 .f32) (ix1 j)))
    (hsig (extractStridedSlice S50 ![50] b slices_S200_S50_50) (ix1 j))) = _
  rw [hsig_apply, hsig_apply, s0, s1, s2]

/-! ## The joined matrix -/

section
variable {R n₁ n₂ n₃ N : ℕ} (x₁ : (⟨2, ![R, n₁]⟩ : Shape).Idx → EReal) (x₂ : (⟨2, ![R, n₂]⟩ : Shape).Idx → EReal) (x₃ : (⟨2, ![R, n₃]⟩ : Shape).Idx → EReal)
  (h : Shape.Concatenates [⟨2, ![R, n₁]⟩, ⟨2, ![R, n₂]⟩, ⟨2, ![R, n₃]⟩] ⟨2, ![R, N]⟩ (1 : Fin 2)) (r : Fin R) (k : Fin N)

/-- Three matrices side by side, read in the first -/
theorem side3_fst (hk : k.val < n₁) :
    concatenate ⟨2, ![R, N]⟩ (1 : Fin 2) [⟨_, x₁⟩, ⟨_, x₂⟩, ⟨_, x₃⟩] h (ix2 r k) = x₁ (ix2 r ⟨k.val, hk⟩) := by
  rw [concatenate_cons_apply, concatenateAt_cons, dif_pos (by exact hk)]
  refine congrArg x₁ (funext fun a => Fin.ext ?_)
  match a with
  | ⟨0, _⟩ => rfl
  | ⟨1, _⟩ => rfl

/-- in the second -/
theorem side3_snd (hk : ¬k.val < n₁) (hk2 : k.val - n₁ < n₂) :
    concatenate ⟨2, ![R, N]⟩ (1 : Fin 2) [⟨_, x₁⟩, ⟨_, x₂⟩, ⟨_, x₃⟩] h (ix2 r k) = x₂ (ix2 r ⟨k.val - n₁, hk2⟩) := by
  rw [concatenate_cons_apply, concatenateAt_cons, dif_neg (by exact hk), concatenateAt_cons, dif_pos (by exact hk2)]
  refine congrArg x₂ (funext fun a => Fin.ext ?_)
  match a with
  | ⟨0, _⟩ => rfl
  | ⟨1, _⟩ => rfl

/-- and in the third. -/
theorem side3_trd (hk : ¬k.val < n₁) (hk2 : ¬k.val - n₁ < n₂) (hk3 : k.val - n₁ - n₂ < n₃) :
    concatenate ⟨2, ![R, N]⟩ (1 : Fin 2) [⟨_, x₁⟩, ⟨_, x₂⟩, ⟨_, x₃⟩] h (ix2 r k) = x₃ (ix2 r ⟨k.val - n₁ - n₂, hk3⟩) := by
  rw [concatenate_cons_apply, concatenateAt_cons, dif_neg (by exact hk), concatenateAt_cons, dif_neg (by exact hk2),
    concatenateAt_singleton]
  refine congrArg x₃ (funext fun a => Fin.ext ?_)
  match a with
  | ⟨0, _⟩ => rfl
  | ⟨1, _⟩ => rfl

end

section
variable {R n₁ n₂ N : ℕ} (x₁ : (⟨2, ![R, n₁]⟩ : Shape).Idx → EReal) (x₂ : (⟨2, ![R, n₂]⟩ : Shape).Idx → EReal)
  (h : Shape.Concatenates [⟨2, ![R, n₁]⟩, ⟨2, ![R, n₂]⟩] ⟨2, ![R, N]⟩ (1 : Fin 2)) (r : Fin R) (k : Fin N)

/-- Two matrices side by side, read in the first -/
theorem side2_fst (hk : k.val < n₁) :
    concatenate ⟨2, ![R, N]⟩ (1 : Fin 2) [⟨_, x₁⟩, ⟨_, x₂⟩] h (ix2 r k) = x₁ (ix2 r ⟨k.val, hk⟩) :=
  concatenate_pair_apply_left _ _ _ h (ix2 r k) rfl (ix2 r ⟨k.val, hk⟩) fun a => match a with | ⟨0, _⟩ => rfl | ⟨1, _⟩ => rfl

/-- and in the second. -/
theorem side2_snd (hk : ¬k.val < n₁) (hk2 : k.val - n₁ < n₂) :
    concatenate ⟨2, ![R, N]⟩ (1 : Fin 2) [⟨_, x₁⟩, ⟨_, x₂⟩] h (ix2 r k) = x₂ (ix2 r ⟨k.val - n₁, hk2⟩) :=
  concatenate_pair_apply_right _ _ _ h (ix2 r k) rfl rfl (ix2 r ⟨k.val - n₁, hk2⟩)
    (fun a => match a with | ⟨0, _⟩ => fun _ => rfl | ⟨1, _⟩ => fun ne => absurd rfl ne) (by show k.val - n₁ + n₁ = k.val; omega)

end

section
variable {m₁ m₂ M C : ℕ} (x₁ : (⟨2, ![m₁, C]⟩ : Shape).Idx → EReal) (x₂ : (⟨2, ![m₂, C]⟩ : Shape).Idx → EReal)
  (h : Shape.Concatenates [⟨2, ![m₁, C]⟩, ⟨2, ![m₂, C]⟩] ⟨2, ![M, C]⟩ (0 : Fin 2)) (r : Fin M) (k : Fin C)

/-- Two matrices one above the other, read in the first -/
theorem stack2_fst (r' : Fin m₁) (hr : r.val = r'.val) :
    concatenate ⟨2, ![M, C]⟩ (0 : Fin 2) [⟨_, x₁⟩, ⟨_, x₂⟩] h (ix2 r k) = x₁ (ix2 r' k) :=
  concatenate_pair_apply_left _ _ _ h (ix2 r k) rfl (ix2 r' k) fun a => match a with | ⟨0, _⟩ => hr.symm | ⟨1, _⟩ => rfl

/-- and in the second. -/
theorem stack2_snd (r' : Fin m₂) (hr : r.val = m₁ + r'.val) :
    concatenate ⟨2, ![M, C]⟩ (0 : Fin 2) [⟨_, x₁⟩, ⟨_, x₂⟩] h (ix2 r k) = x₂ (ix2 r' k) :=
  concatenate_pair_apply_right _ _ _ h (ix2 r k) rfl rfl (ix2 r' k)
    (fun a => match a with | ⟨0, _⟩ => fun ne => absurd rfl ne | ⟨1, _⟩ => fun _ => rfl) (by show r'.val + m₁ = r.val; omega)

end

/-- A broadcast zero. -/
theorem zeros_apply {t : Shape} (h : S_.BroadcastsInDim t ![]) (i : t.Idx) :
    (broadcastInDim t ![] h (constant S_ .f32 0x00000000#32 : FVec Ideal S_ .f32) : FVec Ideal t .f32) i = 0 := zero_bits

section
variable (a b d : Vec Ideal S224x56 .f32) (p q' : Vec Ideal S224x1 .f32) (q : Fin 4) (j : Fin 56)

/-- The first layer's rows of the joined matrix. -/
theorem hbig_A (k : Fin 120) : hbig a b d p q' (ix2 (rowA q j) k)
    = if h : k.val < 56 then a (ix2 (row q j) ⟨k.val, h⟩) else if k.val = 112 then p (ix2 (row q j) 0) else 0 := by
  unfold hbig
  by_cases h : k.val < 112
  · refine (side3_fst _ _ _ _ _ k h).trans ?_
    unfold hrec
    refine (stack2_fst _ _ _ (rowA q j) _ (row q j) rfl).trans ?_
    by_cases h2 : k.val < 56
    · rw [dif_pos h2]
      exact side2_fst _ _ _ _ ⟨k.val, h⟩ h2
    · rw [dif_neg h2, if_neg (by omega)]
      exact (side2_snd _ _ _ _ ⟨k.val, h⟩ h2 (by show k.val - 56 < 56; omega)).trans (zeros_apply _ _)
  · rw [dif_neg (by omega)]
    by_cases h2 : k.val = 112
    · rw [if_pos h2]
      refine (side3_snd _ _ _ _ _ k h (by omega)).trans ?_
      unfold hbias
      refine (stack2_fst _ _ _ (rowA q j) _ (row q j) rfl).trans ?_
      exact congrArg (fun z => p (ix2 (row q j) z)) (Subsingleton.elim _ _)
    · rw [if_neg h2]
      exact (side3_trd _ _ _ _ _ k h (by omega) (by omega)).trans (zeros_apply _ _)

/-- The second layer's rows of the joined matrix. -/
theorem hbig_B (k : Fin 120) : hbig a b d p q' (ix2 (rowB q j) k)
    = if h : k.val < 56 then b (ix2 (row q j) ⟨k.val, h⟩) else if h : k.val - 56 < 56 then d (ix2 (row q j) ⟨k.val - 56, h⟩)
      else if k.val = 112 then q' (ix2 (row q j) 0) else 0 := by
  unfold hbig
  by_cases h : k.val < 112
  · refine (side3_fst _ _ _ _ _ k h).trans ?_
    unfold hrec
    refine (stack2_snd _ _ _ (rowB q j) _ (row q j) rfl).trans ?_
    by_cases h2 : k.val < 56
    · rw [dif_pos h2]
      exact side2_fst _ _ _ _ ⟨k.val, h⟩ h2
    · rw [dif_neg h2, dif_pos (by omega)]
      exact side2_snd _ _ _ _ ⟨k.val, h⟩ h2 (by show k.val - 56 < 56; omega)
  · rw [dif_neg (by omega), dif_neg (by omega)]
    by_cases h2 : k.val = 112
    · rw [if_pos h2]
      refine (side3_snd _ _ _ _ _ k h (by omega)).trans ?_
      unfold hbias
      refine (stack2_snd _ _ _ (rowB q j) _ (row q j) rfl).trans ?_
      exact congrArg (fun z => q' (ix2 (row q j) z)) (Subsingleton.elim _ _)
    · rw [if_neg h2]
      exact (side3_trd _ _ _ _ _ k h (by omega) (by omega)).trans (zeros_apply _ _)

end

/-- The prepared weights hold the net's. -/
theorem holds (a1 : Vec Ideal S200x144 .f32) (a2 : Vec Ideal S200x50 .f32) (a3 a4 : Vec Ideal S200 .f32) (a5 a6 : Vec Ideal S200x50 .f32)
    (a7 a8 : Vec Ideal S200 .f32) :
    Cert.Net.Holds (kw (hwi a1) (hbig (hw56 a2) (hw56 a5) (hw56 a6) (hb a3 a4) (hb a7 a8))) (Cert.Net.weights a1 a2 a3 a4 a5 a6 a7 a8) := by
  refine ⟨fun q j i => hwi_apply a1 q j i, fun q j k => ?_, fun q j k => ?_⟩
  · show hbig _ _ _ _ _ (ix2 (rowA q (up j)) k) = _
    rw [hbig_A]
    by_cases h : k.val < 56
    · rw [dif_pos h, hw56_apply]
      by_cases h2 : k.val < 50
      · rw [dif_pos h2, dif_pos h2]; rfl
      · rw [dif_neg h2, dif_neg h2, if_neg (by omega)]
    · rw [dif_neg h, dif_neg (by omega), hb_apply]; rfl
  · show hbig _ _ _ _ _ (ix2 (rowB q (up j)) k) = _
    rw [hbig_B]
    by_cases h : k.val < 56
    · rw [dif_pos h, hw56_apply]
      by_cases h2 : k.val < 50
      · rw [dif_pos h2, dif_pos h2]; rfl
      · rw [dif_neg h2, dif_neg h2, dif_neg (by omega), if_neg (by omega)]
    · rw [dif_neg h]
      by_cases h2 : k.val - 56 < 56
      · rw [dif_pos h2, hw56_apply, dif_neg (show ¬k.val < 50 by omega)]
        by_cases h3 : k.val - 56 < 50
        · rw [dif_pos (show (⟨k.val - 56, h2⟩ : Fin 56).val < 50 from h3), dif_pos (show 56 ≤ k.val ∧ k.val < 106 by omega)]; rfl
        · rw [dif_neg (show ¬(⟨k.val - 56, h2⟩ : Fin 56).val < 50 from h3), dif_neg (show ¬(56 ≤ k.val ∧ k.val < 106) by omega), if_neg (by omega)]
      · rw [dif_neg h2, dif_neg (show ¬k.val < 50 by omega), dif_neg (show ¬(56 ≤ k.val ∧ k.val < 106) by omega), hb_apply]; rfl

/-- The starting column of the hidden states. -/
theorem hh0_apply (k : Fin 120) : (hh0 : Vec Ideal S120x1 .f32) (ix2 k 0) = (if k.val = 112 then 1 else 0 : EReal) := by
  unfold hh0
  refine (Routing.scatter_cell_signed _ rfl rfl rfl _ _ _ k 0).trans ?_
  have i0 : (concatenate S2 0 [⟨S1, broadcastInDim S1 ![] bcast_S_S1 (constantI S_ 32 112#32)⟩, ⟨S1, broadcastInDim S1 ![] bcast_S_S1 (constantI S_ 32 0#32)⟩] concatenates_S1_S1_S2_d0 : IVec S2 32) (ix1 (0 : Fin 2)) = 112#32 :=
    concatenate_pair_apply_left (s₁ := S1) (s₂ := S1) _ _ _ _ (ix1 (0 : Fin 2)) rfl (ix1 (0 : Fin 1)) fun a => match a with | ⟨0, _⟩ => rfl
  have i1 : (concatenate S2 0 [⟨S1, broadcastInDim S1 ![] bcast_S_S1 (constantI S_ 32 112#32)⟩, ⟨S1, broadcastInDim S1 ![] bcast_S_S1 (constantI S_ 32 0#32)⟩] concatenates_S1_S1_S2_d0 : IVec S2 32) (ix1 (1 : Fin 2)) = 0#32 :=
    concatenate_pair_apply_right (s₁ := S1) (s₂ := S1) _ _ _ _ (ix1 (1 : Fin 2)) rfl rfl (ix1 (0 : Fin 1)) (fun a => match a with | ⟨0, _⟩ => fun ne => absurd rfl ne) rfl
  rw [i0, i1]
  by_cases h : k.val = 112
  · rw [if_pos h, if_pos ⟨by rw [h]; decide, by decide⟩]
    exact one_bits
  · rw [if_neg h, if_neg (fun hh => h ?_)]
    · exact zero_bits
    · have h1 : (112 : ℤ) = k.val := hh.1
      omega

theorem hwf_apply (x : Vec Ideal S144x50 .f32) (o : Fin 144) (k : Fin 56) :
    hwf x (ix2 o k) = (if h : k.val < 50 then x (ix2 o ⟨k.val, h⟩) else 0 : EReal) := by
  unfold hwf
  by_cases h : k.val < 50
  · rw [dif_pos h]
    refine pad_apply_of_inside _ _ _ _ _ _ _ (ix2 o k) (ix2 o ⟨k.val, h⟩) fun a => ?_
    match a with
    | ⟨0, _⟩ => show o.val = 0 + o.val * (0 + 1); omega
    | ⟨1, _⟩ => show k.val = 0 + k.val * (0 + 1); omega
  · rw [dif_neg h]
    refine (pad_apply_of_not_inside _ _ _ _ _ _ _ (ix2 o k) 1 fun hh => ?_).trans (zf_apply _)
    have h3 : (k.val - 0) / (0 + 1) < 50 := hh.2.2
    omega

theorem hbf_apply (x : Vec Ideal S144 .f32) (o : Fin 144) : hbf x (ix2 o 0) = x (ix1 o) := by
  unfold hbf
  refine shapeCast_apply _ _ (ix2 o 0) (ix1 o) ?_
  rw [Shape.rowMajor_val_one, Shape.rowMajor_val_two]
  show o.val = o.val * 1 + 0
  omega

end Cert.KernelIdeal.Host

end
-- ==== Proof.KI.Result.lean ====
/- The kernel program's result entry by entry. -/
module

public import proofs.«01_k».proof.Proof.KI.Column
public import proofs.«01_k».proof.Proof.KI.HostAt

@[expose] public section

set_option maxRecDepth 16384

noncomputable section

namespace Cert.KernelIdeal.Result

open Idealize.ShloMosaic hiding ix0 ix1 ix2 ix3
open Idealize.ShloMosaic.TcCoe Idealize.ShloMosaic.ValueIdx
open Idealize.SL Idealize.SL.Sem
open Cert.KernelIdeal.Facts₀ Cert.KernelIdeal.Facts
open Cert.KernelIdeal.Gen (V V0 hostOps1 launch0)
open Cert.KernelIdeal.Steps (dats kw)
open Cert.KernelIdeal.Blocks Cert.KernelIdeal.Host
open Cert.Net (up pos)

variable (m : (ℓ : Loc nD τ sig) → Buf (Elt Ideal) ℓ) (c : Dev nD)

/-- What an argument's buffer holds at launch. -/
abbrev A (r : Ref sig .tc) := m ((c : Thread nD τ).loc r)

/-- The net's weights in the kernel's arguments. -/
abbrev W : Cert.Net.Weights := Cert.Net.weights (A m c main_arg1) (A m c main_arg2) (A m c main_arg3) (A m c main_arg4) (A m c main_arg5) (A m c main_arg6)
  (A m c main_arg7) (A m c main_arg8)

/-- The net's inputs in the kernel's first argument. -/
abbrev X : Fin 512 → ℕ → Fin 144 → EReal :=
  Cert.Net.inputs (shapeCast S512x256x144 (A m c main_arg0 : FVec Ideal S512x256x16x9 .f32) shapeCasts_S512x256x16x9_S512x256x144)

/-- What the kernel reads holds the net's weights and inputs. -/
theorem loaded (hg : ∀ j : Fin 50, (W m c).bi1 1 j + (W m c).bh1 1 j ≠ ⊥) :
    Loaded m c (W m c) (X m c) (fun o j => (A m c main_arg9 : FVec Ideal S144x50 .f32) (ix2 o j)) (fun o => (A m c main_arg10 : FVec Ideal S144 .f32) (ix1 o)) where
  x t b i := by
    rw [V_v2]
    exact (hx_apply _ t b i).trans (Cert.Net.inputs_apply _ b t i).symm
  w := by
    rw [V_v6, V_v55]
    exact holds _ _ _ _ _ _ _ _
  hh k := by
    rw [V_v60]
    exact hh0_apply k
  c2 j := by
    rw [V_v48]
    exact hc2_apply _ j
  wf o k := by
    rw [V_v61]
    exact hwf_apply _ o k
  bf o := by
    rw [V_v62]
    exact hbf_apply _ o
  gate := hg

/-- The result's buffer after the program: the kernel's result array, transposed and its last axis split in two. -/
theorem tail_v65 : Pipeline.afterTail₀ cfgs (dats m) 0 (V0 m) [hostOps1] c main_v65
    = shapeCast S512x16x9 (transpose S512x144 [1, 0] (outT m c) transposes_S144x512_S512x144_1_0 : FVec Ideal S512x144 .f32) shapeCasts_S512x144_S512x16x9 := by
  have h63 : Pipeline.withArrays spec0 c (V0 m c) (fun w => (dats m 0 c).arrAt w cfg0.N) (Proc.devRef .tc main_v63) = outT m c :=
    (Pipeline.withArrays_arr _ launch0.win.arr_inj _ _ _ 7).trans (final7 m c)
  unfold Pipeline.afterTail₀
  simp only [hostOps1, List.flatten_cons, List.flatten_nil, List.append_nil, List.cons_append, List.nil_append]
  after_reads_simp
  exact congrArg (fun z => shapeCast S512x16x9 (transpose S512x144 [1, 0] z transposes_S144x512_S512x144_1_0 : FVec Ideal S512x144 .f32) shapeCasts_S512x144_S512x16x9) h63

/-- The kernel program's result. -/
theorem out (hg : ∀ j : Fin 50, (W m c).bi1 1 j + (W m c).bh1 1 j ≠ ⊥) : Pipeline.afterTail₀ cfgs (dats m) 0 (V0 m) [hostOps1] c main_v65
    = shapeCast S512x16x9 (fun i : S512x144.Idx => Cert.Net.result (W m c) (X m c) (A m c main_arg9) (A m c main_arg10) (i 0) (i 1)) shapeCasts_S512x144_S512x16x9 := by
  rw [tail_v65]
  refine congrArg (fun z => shapeCast S512x16x9 z shapeCasts_S512x144_S512x16x9) (funext fun i => ?_)
  obtain ⟨b, o, rfl⟩ : ∃ (b : Fin 512) (o : Fin 144), i = ix2 b o := ⟨i 0, i 1, ValueIdx.eq_ix2 i⟩
  refine (transpose_apply _ _ _ (ix2 b o) (ix2 o b) fun a => match a with | ⟨0, _⟩ => rfl | ⟨1, _⟩ => rfl).trans ?_
  exact outT_apply (loaded m c hg) o b

end Cert.KernelIdeal.Result

end
-- ==== Proof.lean ====
/- The proof of the claims: the three programs run without fault, their arguments end unchanged and every counter is back at
   zero; the program over the reals is the kernel itself; and its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RI.Result
public import proofs.«01_k».proof.Proof.KI.Result
public import proofs.«01_k».proof.Proof.Gen.Pre_forget_bias_above_minus_infinity
public import Idealize.ShloMosaic.Lib.Pointwise.Select
public import Idealize.ShloMosaic.Adequacy
public import Idealize.ShloMosaic.Init

@[expose] public section

noncomputable section

namespace Cert.Proof

open Idealize.ShloMosaic Idealize.SL.Sem

/-- The reference runs, its arguments end unchanged and every counter is zero at the end. -/
theorem reference_frame : Cert.quiescent_ReferenceIdeal (hReferenceIdeal := Cert.ReferenceIdeal.Gen.facts) := fun m g _ =>
  (θ_run _ _ _).mono (fun r h => ⟨fun c => by
    have a := fun (b : Ref Cert.ReferenceIdeal.sig .tc) (hs) (hb : b ∈ Cert.ReferenceIdeal.Ref.args) =>
      (h c b hs).trans (Cert.ReferenceIdeal.Ref.final_args m c b hb)
    refine ⟨a Cert.ReferenceIdeal.main_arg0 rfl (by decide), a Cert.ReferenceIdeal.main_arg1 rfl (by decide), a Cert.ReferenceIdeal.main_arg2 rfl (by decide),
      a Cert.ReferenceIdeal.main_arg3 rfl (by decide), a Cert.ReferenceIdeal.main_arg4 rfl (by decide), a Cert.ReferenceIdeal.main_arg5 rfl (by decide),
      a Cert.ReferenceIdeal.main_arg6 rfl (by decide), a Cert.ReferenceIdeal.main_arg7 rfl (by decide), a Cert.ReferenceIdeal.main_arg8 rfl (by decide),
      a Cert.ReferenceIdeal.main_arg9 rfl (by decide), a Cert.ReferenceIdeal.main_arg10 rfl (by decide)⟩,
    Cert.ReferenceIdeal.Ref.sem_zero _⟩) (Cert.ReferenceIdeal.Ref.run_main (F := Ideal) m g)

/-- The precondition: no forget gate of the second layer has a bias sum of minus infinity. -/
theorem gate_ne_bot (m : (ℓ : Loc Cert.KernelIdeal.nD Cert.KernelIdeal.τ Cert.KernelIdeal.sig) → Buf (Elt Ideal) ℓ)
    (hP : Cert.Pre_KernelIdeal_forget_bias_above_minus_infinity m) (c : Dev Cert.KernelIdeal.nD) (j : Fin 50) :
    (Cert.KernelIdeal.Result.W m c).bi1 1 j + (Cert.KernelIdeal.Result.W m c).bh1 1 j ≠ ⊥ := by
  intro e
  have h := congrFun (hP c) (ValueIdx.ix1 j)
  have hs := extractStridedSlice_apply ![50]
    (addf (F := Ideal) (s := Cert.Pre_forget_bias_above_minus_infinity.S200) (φ := .f32)
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)))
    Cert.Pre_forget_bias_above_minus_infinity.Gen.slices_S200_S50_50 (ValueIdx.ix1 j) (ValueIdx.ix1 (Cert.Net.pos 1 j)) fun a => match a with | ⟨0, _⟩ => rfl
  have hb : Ideal.ofBits .f32 0xFF800000#32 = ⊥ := by simp [Ideal.ofBits, Ideal.ieee]
  have hlt : Ideal.ofBits .f32 0xFF800000#32 < _ := (Idealize.ShloMosaic.Ideal.cmp_ogt_eq_one _ _).mp h
  have hlt' := hb.symm.trans_lt (hlt.trans_eq hs)
  exact absurd (hlt'.trans_eq e) (lt_irrefl _)

/-- The kernel over the reals and the reference compute one result. -/
theorem algebraic : Cert.algebraic_KernelIdeal_ReferenceIdeal_pre_forget_bias_above_minus_infinity (hKernelIdeal := Cert.KernelIdeal.Gen.facts)
    (hReferenceIdeal := Cert.ReferenceIdeal.Gen.facts) (hPre_forget_bias_above_minus_infinity := Cert.Pre_forget_bias_above_minus_infinity.Gen.facts) := by
  intro m g m' g' hP hargs
  have hW : ∀ c, Cert.ReferenceIdeal.Ref.W m' c = Cert.KernelIdeal.Result.W m c := fun c => by
    obtain ⟨_, e1, e2, e3, e4, e5, e6, e7, e8, _, _⟩ := hargs c
    have e := congr (congr (congr (congr (congr (congr (congr (congrArg Cert.Net.weights e1) e2) e3) e4) e5) e6) e7) e8
    exact e
  have hX : ∀ c, Cert.ReferenceIdeal.Ref.X m' c = Cert.KernelIdeal.Result.X m c := fun c =>
    congrArg (fun x : FVec Ideal Cert.KernelIdeal.S512x256x16x9 .f32 => Cert.Net.inputs
      (shapeCast Cert.KernelIdeal.S512x256x144 x Cert.KernelIdeal.Facts₀.shapeCasts_S512x256x16x9_S512x256x144)) (hargs c).1
  refine ⟨fun c => shapeCast Cert.KernelIdeal.S512x16x9 (fun i : Cert.KernelIdeal.S512x144.Idx => Cert.Net.result (Cert.KernelIdeal.Result.W m c)
    (Cert.KernelIdeal.Result.X m c) (Cert.KernelIdeal.Result.A m c Cert.KernelIdeal.main_arg9) (Cert.KernelIdeal.Result.A m c Cert.KernelIdeal.main_arg10) (i 0) (i 1))
    Cert.KernelIdeal.Facts₀.shapeCasts_S512x144_S512x16x9, ?_, ?_⟩
  · refine (θ_run _ _ _).mono (fun r h c => ?_) (Cert.KernelIdeal.Steps.run_main (F := Ideal) m g)
    have rest := fun (b : Ref Cert.KernelIdeal.sig .tc) hb => (h.1 c).2 b hb
    refine ⟨(rest Cert.KernelIdeal.main_v65 (Pipeline.mem_restRefs_of Cert.KernelIdeal.main_v65 (by decide) (by decide))).trans
      (Cert.KernelIdeal.Result.out m c (gate_ne_bot m hP c)), ?_⟩
    refine ⟨(rest _ (Pipeline.mem_restRefs_of Cert.KernelIdeal.main_arg0 (by decide) (by decide))).trans (Cert.KernelIdeal.Gen.W_main_arg0 m _ c),
      (rest _ (Pipeline.mem_restRefs_of Cert.KernelIdeal.main_arg1 (by decide) (by decide))).trans (Cert.KernelIdeal.Gen.W_main_arg1 m _ c),
      (rest _ (Pipeline.mem_restRefs_of Cert.KernelIdeal.main_arg2 (by decide) (by decide))).trans (Cert.KernelIdeal.Gen.W_main_arg2 m _ c),
      (rest _ (Pipeline.mem_restRefs_of Cert.KernelIdeal.main_arg3 (by decide) (by decide))).trans (Cert.KernelIdeal.Gen.W_main_arg3 m _ c),
      (rest _ (Pipeline.mem_restRefs_of Cert.KernelIdeal.main_arg4 (by decide) (by decide))).trans (Cert.KernelIdeal.Gen.W_main_arg4 m _ c),
      (rest _ (Pipeline.mem_restRefs_of Cert.KernelIdeal.main_arg5 (by decide) (by decide))).trans (Cert.KernelIdeal.Gen.W_main_arg5 m _ c),
      (rest _ (Pipeline.mem_restRefs_of Cert.KernelIdeal.main_arg6 (by decide) (by decide))).trans (Cert.KernelIdeal.Gen.W_main_arg6 m _ c),
      (rest _ (Pipeline.mem_restRefs_of Cert.KernelIdeal.main_arg7 (by decide) (by decide))).trans (Cert.KernelIdeal.Gen.W_main_arg7 m _ c),
      (rest _ (Pipeline.mem_restRefs_of Cert.KernelIdeal.main_arg8 (by decide) (by decide))).trans (Cert.KernelIdeal.Gen.W_main_arg8 m _ c),
      (rest _ (Pipeline.mem_restRefs_of Cert.KernelIdeal.main_arg9 (by decide) (by decide))).trans (Cert.KernelIdeal.Gen.W_main_arg9 m _ c),
      (rest _ (Pipeline.mem_restRefs_of Cert.KernelIdeal.main_arg10 (by decide) (by decide))).trans (Cert.KernelIdeal.Gen.W_main_arg10 m _ c)⟩
  · refine (θ_run _ _ _).mono (fun r h c => ?_) (Cert.ReferenceIdeal.Ref.run_main (F := Ideal) m' g')
    have a := fun (b : Ref Cert.ReferenceIdeal.sig .tc) (hs) (hb : b ∈ Cert.ReferenceIdeal.Ref.args) =>
      (h c b hs).trans (Cert.ReferenceIdeal.Ref.final_args m' c b hb)
    refine ⟨(h c Cert.ReferenceIdeal.main_v34 rfl).trans ((Cert.ReferenceIdeal.Ref.final_out m' c).trans ?_), a Cert.ReferenceIdeal.main_arg0 rfl (by decide),
      a Cert.ReferenceIdeal.main_arg1 rfl (by decide), a Cert.ReferenceIdeal.main_arg2 rfl (by decide),
      a Cert.ReferenceIdeal.main_arg3 rfl (by decide), a Cert.ReferenceIdeal.main_arg4 rfl (by decide), a Cert.ReferenceIdeal.main_arg5 rfl (by decide),
      a Cert.ReferenceIdeal.main_arg6 rfl (by decide), a Cert.ReferenceIdeal.main_arg7 rfl (by decide), a Cert.ReferenceIdeal.main_arg8 rfl (by decide),
      a Cert.ReferenceIdeal.main_arg9 rfl (by decide), a Cert.ReferenceIdeal.main_arg10 rfl (by decide)⟩
    obtain ⟨_, _, _, _, _, _, _, _, _, e9, e10⟩ := hargs c
    rw [hW c, hX c]
    refine congrArg (fun z => shapeCast Cert.KernelIdeal.S512x16x9 z Cert.KernelIdeal.Facts₀.shapeCasts_S512x144_S512x16x9) (funext fun i => ?_)
    exact congrArg₂ (fun x y => Cert.Net.result (Cert.KernelIdeal.Result.W m c) (Cert.KernelIdeal.Result.X m c) x y (i 0) (i 1)) e9 e10

theorem claim : Cert.Claim := ⟨Cert.Kernel.Gen.facts, Cert.KernelIdeal.Gen.facts, Cert.ReferenceIdeal.Gen.facts, Cert.Pre_forget_bias_above_minus_infinity.Gen.facts,
  fun m g _ => Cert.Kernel.Gen.frame m g, fun m g _ => Cert.KernelIdeal.Gen.frame m g, fun m g _ => Cert.KernelIdeal.Gen.frame m g, reference_frame,
  fun m g _ => reference_frame m g trivial, trivial, algebraic⟩

end Cert.Proof

end
